-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_candidates [hPre_four_candidates : Cert.Pre_four_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_four_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_four_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_four_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_candidates [hPre_four_candidates : Cert.Pre_four_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_four_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_four_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_four_candidates [hKernelIdeal : Cert.KernelIdeal.Facts] [hPre_four_candidates : Cert.Pre_four_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_candidates m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_four_candidates [hReferenceIdeal : Cert.ReferenceIdeal.Facts] [hPre_four_candidates : Cert.Pre_four_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_four_candidates [hKernelIdeal : Cert.KernelIdeal.Facts] [hReferenceIdeal : Cert.ReferenceIdeal.Facts] [hPre_four_candidates : Cert.Pre_four_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_four_candidates : Cert.Pre_four_candidates.Facts),
    quiescent_Kernel (hKernel := hKernel)
    ∧ quiescent_KernelIdeal (hKernelIdeal := hKernelIdeal)
    ∧ quiescent_KernelIdeal_pre_four_candidates (hKernelIdeal := hKernelIdeal) (hPre_four_candidates := hPre_four_candidates)
    ∧ quiescent_ReferenceIdeal (hReferenceIdeal := hReferenceIdeal)
    ∧ quiescent_ReferenceIdeal_pre_four_candidates (hReferenceIdeal := hReferenceIdeal) (hPre_four_candidates := hPre_four_candidates)
    ∧ preserves_Kernel_KernelIdeal
    ∧ algebraic_KernelIdeal_ReferenceIdeal_pre_four_candidates (hKernelIdeal := hKernelIdeal) (hReferenceIdeal := hReferenceIdeal) (hPre_four_candidates := hPre_four_candidates)
-- ==== Pre_four_candidates.lean ====
abbrev S2048x64 : Shape := ⟨2, ![2048, 64]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S2048x1x64 : Shape := ⟨3, ![2048, 1, 64]⟩
abbrev S1x1024x64 : Shape := ⟨3, ![1, 1024, 64]⟩
abbrev S2048x1024x64 : Shape := ⟨3, ![2048, 1024, 64]⟩
abbrev S2048x1024 : Shape := ⟨2, ![2048, 1024]⟩
abbrev S2048 : Shape := ⟨1, ![2048]⟩
abbrev S2048x1 : Shape := ⟨2, ![2048, 1]⟩

class Facts : Prop where
  reducesTo_S1024x64_S1024_d1 : S1024x64.ReducesTo [1] S1024
  h_S_ : 0 < S_.numel
  bcast_S1024_S1x1024_1 : S1024.BroadcastsInDim S1x1024 (![1] : Fin 1 → Fin S1x1024.rank)
  bcast_S2048x64_S2048x1x64_0_2 : S2048x64.BroadcastsInDim S2048x1x64 (![0, 2] : Fin 2 → Fin S2048x1x64.rank)
  bcast_S1024x64_S1x1024x64_1_2 : S1024x64.BroadcastsInDim S1x1024x64 (![1, 2] : Fin 2 → Fin S1x1024x64.rank)
  bcast_S2048x1x64_S2048x1024x64_0_1_2 : S2048x1x64.BroadcastsInDim S2048x1024x64 (![0, 1, 2] : Fin 3 → Fin S2048x1024x64.rank)
  bcast_S1x1024x64_S2048x1024x64_0_1_2 : S1x1024x64.BroadcastsInDim S2048x1024x64 (![0, 1, 2] : Fin 3 → Fin S2048x1024x64.rank)
  reducesTo_S2048x1024x64_S2048x1024_d2 : S2048x1024x64.ReducesTo [2] S2048x1024
  bcast_S_S2048x1024 : S_.BroadcastsInDim S2048x1024 (![] : Fin 0 → Fin S2048x1024.rank)
  bcast_S1x1024_S2048x1024_0_1 : S1x1024.BroadcastsInDim S2048x1024 (![0, 1] : Fin 2 → Fin S2048x1024.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x64 : S_.BroadcastsInDim S2048x64 (![] : Fin 0 → Fin S2048x64.rank)
  bcast_S_S2048 : S_.BroadcastsInDim S2048 (![] : Fin 0 → Fin S2048.rank)

variable [Facts]

def fn_where {F : FTy → Type} [FloatOps F] (arg0 : IVec S2048x1024 1) (arg1 : FVec F S_ .f32) (arg2 : FVec F S_ .f32) : FVec F S2048x1024 .f32 :=
  let v0 : FVec F S2048x1024 .f32 := broadcastInDim S2048x1024 ![] bcast_S_S2048x1024 arg1
  let v1 : FVec F S2048x1024 .f32 := broadcastInDim S2048x1024 ![] bcast_S_S2048x1024 arg2
  let v2 : FVec F S2048x1024 .f32 := select arg0 v0 v1
  v2

def fn_part2 {F : FTy → Type} [FloatOps F] (main_v28 : FVec F S2048 .f32) (main_v31 : IVec S2048x64 1) (main_v34 : IVec S2048x1024 1) (main_v35 : FVec F S2048 .f32) : IVec S2048x64 1 × IVec S2048x1024 1 × IVec S2048 1 :=
  let main_v36 : IVec S2048 1 := cmpf .ole main_v28 main_v35
  (main_v31, main_v34, main_v36)

def fn_part1 {F : FTy → Type} [FloatOps F] (main_arg0 : FVec F S2048x64 .f32) (main_v12 : FVec F S2048x1024 .f32) (main_v19 : FVec F S2048x1024 .f32) : IVec S2048x64 1 × IVec S2048x1024 1 × IVec S2048 1 :=
  let main_cst_3 : FVec F S_ .f32 := constant S_ .f32 0x7F800000#32
  let main_v20 : FVec F S2048 .f32 := (fun x v => Host.reduce FloatOps.minimumf x v reducesTo_S2048x1024_S2048_d1 h_S_) main_v19 main_cst_3
  let main_v21 : FVec F S2048x1 .f32 := broadcastInDim S2048x1 ![0] bcast_S2048_S2048x1_0 main_v20
  let main_cst_4 : FVec F S_ .f32 := constant S_ .f32 0x36000000#32
  let main_v22 : FVec F S2048x1 .f32 := broadcastInDim S2048x1 ![] bcast_S_S2048x1 main_cst_4
  let main_v23 : FVec F S2048x1 .f32 := addf main_v21 main_v22
  let main_v24 : FVec F S2048x1024 .f32 := broadcastInDim S2048x1024 ![0, 1] bcast_S2048x1_S2048x1024_0_1 main_v23
  let main_v25 : IVec S2048x1024 1 := cmpf .olt main_v19 main_v24
  let main_cst_5 : FVec F S_ .f32 := constant S_ .f32 0x3F800000#32
  let main_cst_6 : FVec F S_ .f32 := constant S_ .f32 0x00000000#32
  let main_v26 : FVec F S2048x1024 .f32 := fn_where (F := F) main_v25 main_cst_5 main_cst_6
  let main_v27 : FVec F S2048x1024 .f32 := id main_v26
  let main_cst_7 : FVec F S_ .f32 := constant S_ .f32 0x00000000#32
  let main_v28 : FVec F S2048 .f32 := (fun x v => Host.reduceAdd x v reducesTo_S2048x1024_S2048_d1 h_S_) main_v27 main_cst_7
  let main_v29 : FVec F S2048x64 .f32 := Host.absf main_arg0
  let main_cst_8 : FVec F S_ .f32 := constant S_ .f32 0x7F800000#32
  let main_v30 : FVec F S2048x64 .f32 := broadcastInDim S2048x64 ![] bcast_S_S2048x64 main_cst_8
  let main_v31 : IVec S2048x64 1 := cmpf .olt main_v29 main_v30
  let main_v32 : FVec F S2048x1024 .f32 := Host.absf main_v12
  let main_cst_9 : FVec F S_ .f32 := constant S_ .f32 0x40000000#32
  let main_v33 : FVec F S2048x1024 .f32 := broadcastInDim S2048x1024 ![] bcast_S_S2048x1024 main_cst_9
  let main_v34 : IVec S2048x1024 1 := cmpf .olt main_v32 main_v33
  let main_cst_10 : FVec F S_ .f32 := constant S_ .f32 0x40800000#32
  let main_v35 : FVec F S2048 .f32 := broadcastInDim S2048 ![] bcast_S_S2048 main_cst_10
  fn_part2 (F := F) main_v28 main_v31 main_v34 main_v35

def fn {F : FTy → Type} [FloatOps F] (main_arg0 : FVec F S2048x64 .f32) (main_arg1 : FVec F S1024x64 .f32) : IVec S2048x64 1 × IVec S2048x1024 1 × IVec S2048 1 :=
  let main_v0 : FVec F S1024x64 .f32 := mulf main_arg1 main_arg1
  let main_cst : FVec F S_ .f32 := constant S_ .f32 0x00000000#32
  let main_v1 : FVec F S1024 .f32 := (fun x v => Host.reduceAdd x v reducesTo_S1024x64_S1024_d1 h_S_) main_v0 main_cst
  let main_v2 : FVec F S1x1024 .f32 := broadcastInDim S1x1024 ![1] bcast_S1024_S1x1024_1 main_v1
  let main_v3 : FVec F S2048x1x64 .f32 := broadcastInDim S2048x1x64 ![0, 2] bcast_S2048x64_S2048x1x64_0_2 main_arg0
  let main_v4 : FVec F S1x1024x64 .f32 := broadcastInDim S1x1024x64 ![1, 2] bcast_S1024x64_S1x1024x64_1_2 main_arg1
  let main_v5 : FVec F S2048x1024x64 .f32 := broadcastInDim S2048x1024x64 ![0, 1, 2] bcast_S2048x1x64_S2048x1024x64_0_1_2 main_v3
  let main_v6 : FVec F S2048x1024x64 .f32 := broadcastInDim S2048x1024x64 ![0, 1, 2] bcast_S1x1024x64_S2048x1024x64_0_1_2 main_v4
  let main_v7 : FVec F S2048x1024x64 .f32 := mulf main_v5 main_v6
  let main_cst_0 : FVec F S_ .f32 := constant S_ .f32 0x00000000#32
  let main_v8 : FVec F S2048x1024 .f32 := (fun x v => Host.reduceAdd x v reducesTo_S2048x1024x64_S2048x1024_d2 h_S_) main_v7 main_cst_0
  let main_cst_1 : FVec F S_ .f32 := constant S_ .f32 0x40000000#32
  let main_v9 : FVec F S2048x1024 .f32 := broadcastInDim S2048x1024 ![] bcast_S_S2048x1024 main_cst_1
  let main_v10 : FVec F S2048x1024 .f32 := mulf main_v9 main_v8
  let main_v11 : FVec F S2048x1024 .f32 := broadcastInDim S2048x1024 ![0, 1] bcast_S1x1024_S2048x1024_0_1 main_v2
  let main_v12 : FVec F S2048x1024 .f32 := subf main_v11 main_v10
  let main_v13 : FVec F S2048x1x64 .f32 := broadcastInDim S2048x1x64 ![0, 2] bcast_S2048x64_S2048x1x64_0_2 main_arg0
  let main_v14 : FVec F S1x1024x64 .f32 := broadcastInDim S1x1024x64 ![1, 2] bcast_S1024x64_S1x1024x64_1_2 main_arg1
  let main_v15 : FVec F S2048x1024x64 .f32 := broadcastInDim S2048x1024x64 ![0, 1, 2] bcast_S2048x1x64_S2048x1024x64_0_1_2 main_v13
  let main_v16 : FVec F S2048x1024x64 .f32 := broadcastInDim S2048x1024x64 ![0, 1, 2] bcast_S1x1024x64_S2048x1024x64_0_1_2 main_v14
  let main_v17 : FVec F S2048x1024x64 .f32 := subf main_v15 main_v16
  let main_v18 : FVec F S2048x1024x64 .f32 := mulf main_v17 main_v17
  let main_cst_2 : FVec F S_ .f32 := constant S_ .f32 0x00000000#32
  let main_v19 : FVec F S2048x1024 .f32 := (fun x v => Host.reduceAdd x v reducesTo_S2048x1024x64_S2048x1024_d2 h_S_) main_v18 main_cst_2
  fn_part1 (F := F) main_arg0 main_v12 main_v19
-- ==== Kernel.lean ====
abbrev S2048x64 : Shape := ⟨2, ![2048, 64]⟩
abbrev S1024x64 : Shape := ⟨2, ![1024, 64]⟩
abbrev S32x256 : Shape := ⟨2, ![32, 256]⟩
abbrev S1024x128 : Shape := ⟨2, ![1024, 128]⟩
abbrev S2048x1024 : Shape := ⟨2, ![2048, 1024]⟩
abbrev S1x64 : Shape := ⟨2, ![1, 64]⟩
abbrev S1x1024 : Shape := ⟨2, ![1, 1024]⟩
abbrev S2048 : Shape := ⟨1, ![2048]⟩
abbrev S2048x1 : Shape := ⟨2, ![2048, 1]⟩
abbrev S8x256 : Shape := ⟨2, ![8, 256]⟩
abbrev S8192x128 : Shape := ⟨2, ![8192, 128]⟩
abbrev S256 : Shape := ⟨1, ![256]⟩
abbrev S256x128 : Shape := ⟨2, ![256, 128]⟩
abbrev S_ : Shape := ⟨0, ![]⟩
abbrev S1x256 : Shape := ⟨2, ![1, 256]⟩
abbrev S1x2048 : Shape := ⟨2, ![1, 2048]⟩
abbrev S2048x256 : Shape := ⟨2, ![2048, 256]⟩
abbrev S256x2048 : Shape := ⟨2, ![256, 2048]⟩
abbrev S64x2048 : Shape := ⟨2, ![64, 2048]⟩
abbrev S8x2048 : Shape := ⟨2, ![8, 2048]⟩
abbrev S4x2048 : Shape := ⟨2, ![4, 2048]⟩
abbrev S2x2048 : Shape := ⟨2, ![2, 2048]⟩

abbrev nBuf : Table → Nat
  | .hbm => 8
  | .local .tc .vmem => 9
  | .local .scVector .vmem => 2
  | _ => 0

abbrev bufTy : (tb : Table) → Fin (nBuf tb) → BufTy
  | .hbm, ⟨0, _⟩ => ⟨S2048x64, .f32⟩
  | .hbm, ⟨1, _⟩ => ⟨S1024x64, .f32⟩
  | .hbm, ⟨2, _⟩ => ⟨S32x256, .i32⟩
  | .hbm, ⟨3, _⟩ => ⟨S1024x128, .f32⟩
  | .hbm, ⟨4, _⟩ => ⟨S8192x128, .f32⟩
  | .hbm, ⟨5, _⟩ => ⟨S2048x64, .f32⟩
  | .hbm, ⟨6, _⟩ => ⟨S1x2048, .i32⟩
  | .hbm, ⟨7, _⟩ => ⟨S2048, .i32⟩
  | .local .tc .vmem, ⟨0, _⟩ => ⟨S2048x64, .f32⟩
  | .local .tc .vmem, ⟨1, _⟩ => ⟨S1024x64, .f32⟩
  | .local .tc .vmem, ⟨2, _⟩ => ⟨S32x256, .i32⟩
  | .local .tc .vmem, ⟨3, _⟩ => ⟨S1024x128, .f32⟩
  | .local .tc .vmem, ⟨4, _⟩ => ⟨S2048x64, .f32⟩
  | .local .tc .vmem, ⟨5, _⟩ => ⟨S8192x128, .f32⟩
  | .local .tc .vmem, ⟨6, _⟩ => ⟨S32x256, .i32⟩
  | .local .tc .vmem, ⟨7, _⟩ => ⟨S2048x64, .f32⟩
  | .local .tc .vmem, ⟨8, _⟩ => ⟨S1x2048, .i32⟩
  | .local .scVector .vmem, ⟨0, _⟩ => ⟨S256, .i32⟩
  | .local .scVector .vmem, ⟨1, _⟩ => ⟨S256x128, .f32⟩
  | _, _ => ⟨S2048x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v0_1_scv : Ref sig .scVector := ⟨.hbm, 3, rfl⟩
abbrev main_v0_0_scv : Ref sig .scVector := ⟨.hbm, 2, rfl⟩
abbrev main_v1_scv : Ref sig .scVector := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v4 : BitVec 32 := Scalar.muli v1 c256_i32
  let c0_i32_3_r1 : BitVec 32 := 0#32
  ![v4.toNat, 0]
abbrev grid2 : Pipeline.Grid := .none

abbrev stage2_0 : Fin 1 → Memref sig .tc .vmem S2048x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x256 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x2048 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x64 : Shape := ⟨2, ![2048, 64]⟩
abbrev S1024x64 : Shape := ⟨2, ![1024, 64]⟩
abbrev S2048x1x64 : Shape := ⟨3, ![2048, 1, 64]⟩
abbrev S1x1024x64 : Shape := ⟨3, ![1, 1024, 64]⟩
abbrev S2048x1024x64 : Shape := ⟨3, ![2048, 1024, 64]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1024x64, .f32⟩
  | .hbm, ⟨2, _⟩ => ⟨S2048x1x64, .f32⟩
  | .hbm, ⟨3, _⟩ => ⟨S1x1024x64, .f32⟩
  | .hbm, ⟨4, _⟩ => ⟨S2048x1024x64, .f32⟩
  | .hbm, ⟨5, _⟩ => ⟨S2048x1024x64, .f32⟩
  | .hbm, ⟨6, _⟩ => ⟨S2048x1024x64, .f32⟩
  | .hbm, ⟨7, _⟩ => ⟨S2048x1024x64, .f32⟩
  | .hbm, ⟨8, _⟩ => ⟨S_, .f32⟩
  | .hbm, ⟨9, _⟩ => ⟨S2048x1024, .f32⟩
  | .hbm, ⟨10, _⟩ => ⟨S2048x1024, .i32⟩
  | .hbm, ⟨11, _⟩ => ⟨S_, .f32⟩
  | .hbm, ⟨12, _⟩ => ⟨S_, .i32⟩
  | .hbm, ⟨13, _⟩ => ⟨S2048, .f32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S1, .i32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S1x1, .i32⟩
  | .hbm, ⟨28, _⟩ => ⟨S2048x1, .i32⟩
  | .hbm, ⟨29, _⟩ => ⟨S2048x1, .i1⟩
  | .hbm, ⟨30, _⟩ => ⟨S2048x1, .i1⟩
  | .hbm, ⟨31, _⟩ => ⟨S_, .i1⟩
  | .hbm, ⟨32, _⟩ => ⟨S2048, .i1⟩
  | .hbm, ⟨33, _⟩ => ⟨S2048x64, .f32⟩
  | .hbm, ⟨34, _⟩ => ⟨S2048x64, .i1⟩
  | .hbm, ⟨35, _⟩ => ⟨S_, .f32⟩
  | .hbm, ⟨36, _⟩ => ⟨S2048x64, .f32⟩
  | .hbm, ⟨37, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v8 : Ref sig .tc := ⟨.hbm, 37, rfl⟩

abbrev nD : Nat := 1
abbrev τ : Topo := Topo.v7x

variable {F : FTy → Type} [FloatOps F]
-- ==== Proof.KernelIdealGather.lean ====
/-
  The SparseCore call of the kernel: thirty-two tasks, each reading its row of candidate indices, gathering the
  named rows of the padded codebook by the indirect stream, and writing them to its block of the gathered array.
  Everything is stated for any float instance. The handshakes carry values: a task is handed its row of candidate
  indices at KNOWN words, and the padded codebook at contents whose first sixty-four columns are the codebook's; it
  hands back its block of the gathered array, the first sixty-four columns of each row being the codebook row that
  the candidate index names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 2) fun p => (pcfgs (F := F) p).Adm
abbrev K : SparseCore.Cfg τ sig (ΛP (F := F)) 1 := sc (F := F)
/-- The gather runs on both SparseCores. -/
theorem nCore_zero : (K (F := F)).nCore 0 = 2 := rfl
/-- On each of them, on sixteen tiles. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no vector-memory buffer of the program is shared by tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the call -/

abbrev cLoc (d : Dev nD) : Loc nD τ sig := (SparseCore.T d).loc main_v0_0
abbrev pLoc (d : Dev nD) : Loc nD τ sig := (SparseCore.T d).loc main_v0_1
abbrev gLoc (d : Dev nD) : Loc nD τ sig := (SparseCore.T d).loc main_v1

local notation "pV" => (Memref.whole Cert.KernelIdeal.main_v0_1_scv : Memref Cert.KernelIdeal.sig Kind.scVector Space.hbm Cert.KernelIdeal.S1024x128 EltTy.f32)
local notation "cV'" => (Memref.whole Cert.KernelIdeal.main_v0_0_scv : Memref Cert.KernelIdeal.sig Kind.scVector Space.hbm Cert.KernelIdeal.S32x256 EltTy.i32)
local notation "gV" => (Memref.whole Cert.KernelIdeal.main_v1_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S256 EltTy.i32)
local notation "rV" => (Memref.whole Cert.KernelIdeal.cc1_scratch1 : Memref Cert.KernelIdeal.sig Kind.scVector Space.vmem Cert.KernelIdeal.S256x128 EltTy.f32)

/-- The table of words divides into 32 rows. -/
theorem cdiv : 32 ∣ S32x256.size 0 := ⟨1, rfl⟩
/-- The gathered array divides into 32 blocks. -/
theorem gdiv : 32 ∣ S8192x128.size 0 := ⟨256, rfl⟩
/-- Row `w` of the candidate array, and block `w` (256 rows) of the gathered array. -/
abbrev crow (w : Fin 32) : Rect S32x256 := Rect.part (s := S32x256) (a₀ := 0) cdiv w
abbrev gblk (w : Fin 32) : Rect S8192x128 := Rect.part (s := S8192x128) (a₀ := 0) gdiv w
abbrev cSet (w : Fin 32) : Finset S32x256.Idx := ((cV').view.slice (crow w)).set
abbrev gSet (w : Fin 32) : Finset S8192x128.Idx := ((gV).view.slice (gblk w)).set
/-- Worker `w`'s share of the padded codebook: one of thirty-two pieces of the whole. -/
def pq (w : Fin 32) : PosShare TreeShare := pieceOf fullShare 32 (by decide) w

/-- The worker number of task `i` on SparseCore `c`. -/
def wid (c : Fin 2) (i : Fin 16) : Fin 32 := ⟨2 * i.val + c.val, by omega⟩

/-! ## What the handshakes say of the contents -/

/-- The padded codebook `f` has the codebook `e` in its first sixty-four columns. -/
def PadOK (e : S1024x64.Idx → F .f32) (f : S1024x128.Idx → F .f32) : Prop :=
  ∀ (x : S1024x128.Idx) (k : S1024x64.Idx), (k 0).val = (x 0).val → (k 1).val = (x 1).val → f x = e k

/-- Block `w` of the gathered array `f`: in row `256 w + n`, the first sixty-four columns are the codebook row that
    word `n` of row `w` of the candidates names. -/
def BlkOK (e : S1024x64.Idx → F .f32) (C : S32x256.Idx → BitVec 32) (w : Fin 32) (f : S8192x128.Idx → F .f32) : Prop :=
  ∀ (x : S8192x128.Idx) (y : S32x256.Idx) (k : S1024x64.Idx), (y 0).val = w.val → (x 0).val = 256 * w.val + (y 1).val →
    (k 0).val = (C y).toNat → (k 1).val = (x 1).val → f x = e k

variable [FloatOps F]
variable (e : Dev nD → S1024x64.Idx → F .f32) (C : Dev nD → S32x256.Idx → BitVec 32)

abbrev cRowPts (d : Dev nD) (w : Fin 32) : sProp 𝕄 := cLoc d ↦[cSet w]{fullShare} (C d : Buf (Elt F) (cLoc d))
abbrev pShPts (d : Dev nD) (w : Fin 32) (f : Buf (Elt F) (pLoc d)) : sProp 𝕄 := pLoc d ↦{pq w} f
abbrev gBlkPts (d : Dev nD) (w : Fin 32) (f : Buf (Elt F) (gLoc d)) : sProp 𝕄 := gLoc d ↦[gSet w]{fullShare} f

/-- What worker `w` is handed: its row of candidates, its share of the padded codebook, its block of the result. -/
abbrev goAt (d : Dev nD) (w : Fin 32) : sProp 𝕄 :=
  iprop(cRowPts (F := F) C d w ∗ (∃ f, ⌜PadOK (e d) f⌝ ∗ pShPts d w f) ∗ ∃ f, gBlkPts d w f)
/-- What it hands back: its row of candidates and its block, filled. -/
abbrev tdAt (d : Dev nD) (w : Fin 32) : sProp 𝕄 :=
  iprop(cRowPts (F := F) C d w ∗ ∃ f, ⌜BlkOK (e d) (C d) w f⌝ ∗ gBlkPts d w f)

/-- The worker of task `i` on SparseCore `c`, as the call numbers them. -/
abbrev widK (c : Fin ((K (F := F)).nCore 0)) (i : Fin ((K (F := F)).nSub 0)) : Fin 32 := wid (Fin.cast nCore_zero c) (Fin.cast nSub_zero i)

/-- The call's payloads: each SparseCore is handed its sixteen tasks' operands, and hands back their results. -/
def P : (K (F := F)).Pay (nD := nD) (Val := Elt F) (Name := ℕ) (U := UU) where
  st := fun q d c => match q with | 0 => bigSep Finset.univ fun i => goAt e C d (widK c i)
  dn := fun q d c => match q with | 0 => bigSep Finset.univ fun i => tdAt e C d (widK c i)
  go := fun q d c i => match q with | 0 => goAt e C d (widK c i)
  td := fun q d c i => match q with | 0 => tdAt e C d (widK c i)
  x := fun _ _ => iprop(emp)

/-- What the handshakes carry can be stored. -/
instance P_storable : (P (F := F) e C).IsStorable where
  st q d c := match q with
    | 0 => (inferInstance : BI.Storable (upEmb : UEmb _ 𝕄) (bigSep Finset.univ fun i => goAt e C d (widK c i)))
  dn q d c := match q with
    | 0 => (inferInstance : BI.Storable (upEmb : UEmb _ 𝕄) (bigSep Finset.univ fun i => tdAt e C d (widK c i)))
  go q d c i := match q with
    | 0 => (inferInstance : BI.Storable (upEmb : UEmb _ 𝕄) (goAt e C d (widK c i)))
  td q d c i := match q with
    | 0 => (inferInstance : BI.Storable (upEmb : UEmb _ 𝕄) (tdAt e C d (widK c i)))

/-! ## One task -/

section Tile

variable (d : Dev nD) (L : grid1.Coords)

abbrev cV (L : grid1.Coords) : Fin τ.nSC := (L 0).castLE hcore1
abbrev jV (L : grid1.Coords) : Fin τ.nSub := (L 1).castLE hsub1
abbrev wL (L : grid1.Coords) : Fin 32 := wid (L 0) (L 1)

abbrev crowK (L : grid1.Coords) : Rect S32x256 := Rect.unit (s := S32x256) (k1_off1 L) S1x256.size (k1_off1_inb L)
abbrev gblkK (L : grid1.Coords) : Rect S8192x128 := Rect.unit (s := S8192x128) (k1_off2 L) S256x128.size (k1_off2_inb L)
/-- The task's row of candidates, its block of the result, and the whole padded codebook, as the task addresses them. -/
abbrev cRowK (L : grid1.Coords) : Memref sig .scVector .hbm S256 .i32 := ((cV').slice (crowK L) (fun _ => rfl)).squeeze S256 squeezes_S1x256_S256
abbrev gBlkK (L : grid1.Coords) : Memref sig .scVector .hbm S256x128 .f32 := (gV).slice (gblkK L) (fun _ => rfl)
abbrev pAllK : Memref sig .scVector .hbm S1024x128 .f32 := (pV).slice (Rect.unit (s := S1024x128) ![0, 0] S1024x128.size inb_S1024x128_S1024x128_0_0) (fun _ => rfl)

omit [FloatOps F] in
/-- The row of words that a tile's body reads is its worker's row. -/
theorem crowK_eq : crowK L = crow (wL L) := by
  unfold crowK crow Rect.part Rect.block
  congr 1 <;> funext a
  · rw [k1_off1_eq]
    match a with
    | 0 => simp [Shape.partIx, Shape.partSize, wL, wid]
    | 1 => simp [Shape.partIx, Shape.partSize]
  · match a with
    | 0 => simp [Shape.partSize]
    | 1 => simp [Shape.partSize]
omit [FloatOps F] in
/-- The block that a tile's body writes is its worker's block. -/
theorem gblkK_eq : gblkK L = gblk (wL L) := by
  unfold gblkK gblk Rect.part Rect.block
  congr 1 <;> funext a
  · rw [k1_off2_eq]
    match a with
    | 0 => simp [Shape.partIx, Shape.partSize, wL, wid]; omega
    | 1 => simp [Shape.partIx, Shape.partSize]
  · match a with
    | 0 => simp [Shape.partSize]
    | 1 => simp [Shape.partSize]

omit [FloatOps F] in
/-- The same of the sets of indices: the row of words. -/
theorem set_cRowK : (cRowK L).view.set = cSet (wL L) := by
  show (((cV').view.slice (crowK L)).reshape S256 squeezes_S1x256_S256.numel_eq).set = ((cV').view.slice (crow (wL L))).set
  rw [View.set_reshape]
  exact crowK_eq L ▸ rfl
omit [FloatOps F] in
/-- The same of the sets of indices: the block. -/
theorem set_gBlkK : (gBlkK L).view.set = gSet (wL L) := by
  show ((gV).view.slice (gblkK L)).set = ((gV).view.slice (gblk (wL L))).set
  exact gblkK_eq L ▸ rfl

omit [FloatOps F] in
/-- Ownership of a worker's row of words, as the body spells it. -/
theorem pts_cRowK (f : Buf (Elt F) (cLoc d)) :
    ((cRowK L).view.loc (V d (cV L) (jV L)) ↦[(cRowK L).view.set]{fullShare} f : sProp 𝕄) = cLoc d ↦[cSet (wL L)]{fullShare} f := by
  rw [set_cRowK]
omit [FloatOps F] in
/-- Ownership of a worker's block, as the body spells it. -/
theorem pts_gBlkK (f : Buf (Elt F) (gLoc d)) :
    ((gBlkK L).view.loc (V d (cV L) (jV L)) ↦[(gBlkK L).view.set]{fullShare} f : sProp 𝕄) = gLoc d ↦[gSet (wL L)]{fullShare} f := by
  rw [set_gBlkK]
omit [FloatOps F] in
/-- A share of the padded codebook, as the body spells it. -/
theorem pts_pV (q : PosShare TreeShare) (f : Buf (Elt F) (pLoc d)) :
    ((pAllK).view.loc (V d (cV L) (jV L)) ↦{q} f : sProp 𝕄) = pLoc d ↦{q} f := rfl
omit [FloatOps F] in
/-- Ownership of a tile's buffer of words, as the body spells it. -/
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
/-- Ownership of a tile's buffer of rows, as the body spells it. -/
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev semA (d : Dev nD) (c : Fin τ.nSC) (i : Fin τ.nSub) : GSem nD τ sig := (V d c i, .dma cc1_scratch2.sem)
abbrev semB (d : Dev nD) (c : Fin τ.nSC) (i : Fin τ.nSub) : GSem nD τ sig := (V d c i, .dma cc1_scoped0.sem)
abbrev semC (d : Dev nD) (c : Fin τ.nSC) (i : Fin τ.nSub) : GSem nD τ sig := (V d c i, .dma cc1_scoped1.sem)

omit [FloatOps F] in
/-- The task's three DMA semaphores, taken out of the subcore's own cells at zero. -/
theorem ownSems0_V :
    (ownSems0 (V d (cV L) (jV L)) : sProp 𝕄)
      = iprop(semVal (semA d (cV L) (jV L)) 0 ∗ semVal (semB d (cV L) (jV L)) 0 ∗ semVal (semC d (cV L) (jV L)) 0
          ∗ bigSep ((((ownCells (V d (cV L) (jV L))).erase (semA d (cV L) (jV L))).erase (semB d (cV L) (jV L))).erase (semC d (cV L) (jV L))) fun g => semVal g 0) := by
  have own : ∀ s : DmaSem sig, (SemLoc.dma s : SemLoc sig).isScoped .scVector = true →
      ((V d (cV L) (jV L), .dma s) : GSem nD τ sig) ∈ ownCells (V d (cV L) (jV L)) := fun s h => mem_ownCells.mpr ⟨rfl, h⟩
  unfold SparseCore.Cfg.ownSems0
  rw [SparseCore.bigSep_erase' (own cc1_scratch2.sem (by decide)),
    SparseCore.bigSep_erase' (Finset.mem_erase.mpr ⟨by simp [semA, semB]; decide, own cc1_scoped0.sem (by decide)⟩),
    SparseCore.bigSep_erase' (Finset.mem_erase.mpr ⟨by simp [semB, semC]; decide,
      Finset.mem_erase.mpr ⟨by simp [semA, semC]; decide, own cc1_scoped1.sem (by decide)⟩⟩)]

omit [FloatOps F] in
/-- The task's two scratch buffers, taken out of the subcore's own buffers, each at some contents. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun h => absurd (Proc.devRef_injective _ h) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The fetched list of a task, read whole, is its row of the candidates. -/
theorem list_read (fs : Buf (Elt F) ((V d (cV L) (jV L)).loc cc1_scratch0)) (pay : S256.Idx → Elt F .i32)
    (hpay : pay = (cRowK L).view.read (Elt F) (C d : Buf (Elt F) (cLoc d))) (x : S256.Idx) :
    (sV).view.read (Elt F) (View.write (Elt F) (sV).view fs pay Finset.univ) x = C d ((cRowK L).view.emb x) := by
  subst hpay
  rw [View.write_whole_univ]
  simp only [Memref.view_whole, View.read_whole]
  exact (View.read_apply _ _).trans (cast_eq _ _)

omit [FloatOps F] in
/-- Word `n` of the task's row, as the task addresses it, lies at row `wL L`, column `n` of the candidate array. -/
theorem cRowK_emb (x : S256.Idx) : ((cRowK L).view.emb x 0).val = (wL L).val ∧ ((cRowK L).view.emb x 1).val = (x 0).val := by
  have hx : (x 0).val < 256 := (x 0).isLt
  have hz : Shape.reshapeEquiv (s := S1x256) (s' := S256) squeezes_S1x256_S256.numel_eq x = Shape.pair (d := ![1, 256]) (0 : Fin 1) ⟨(x 0).val, hx⟩ := by
    refine Shape.reshapeEquiv_eq_of_rowMajor _ ?_
    rw [Shape.rowMajor_val_one, Shape.rowMajor_val_two]
    show 0 * 256 + (x 0).val = _
    omega
  have he : (cRowK L).view.emb x = (crowK L).emb (Shape.pair (d := ![1, 256]) (0 : Fin 1) ⟨(x 0).val, hx⟩) := by
    rw [← hz]; rfl
  rw [he]
  have ho := k1_off1_eq L
  constructor
  · show (k1_off1 L 0 + 1 * 0 : ℕ) = _
    rw [ho]; simp [wL, wid]
  · show (k1_off1 L 1 + 1 * (x 0).val : ℕ) = _
    rw [ho]; simp

omit [FloatOps F] in
/-- The block written by a task is the block it is asked for: each row of the scratch is the padded codebook's row that
    the fetched list names, and the list is the task's row of the candidates. -/
theorem block_ok (fp : Buf (Elt F) (pLoc d)) (hfp : PadOK (e d) fp) (fg : Buf (Elt F) (gLoc d))
    (lst : S256.Idx → Elt F .i32) (hlst : ∀ x, lst x = C d ((cRowK L).view.emb x)) (hn : S256.numel = S256x128.size gathers_S1024x128_S256x128.axis')
    (hin : ∀ x, (lst x).toNat < S1024x128.size gathers_S1024x128_S256x128.axis) (pay : S256x128.Idx → Elt F .f32)
    (hpay : pay = SparseCore.gatherPayload gathers_S1024x128_S256x128 ((pAllK).view.read (Elt F) fp) (SparseCore.rows lst hn hin)) :
    BlkOK (e d) (C d) (wL L) ((gBlkK L).view.writes (Elt F) fg [⟨Rect.whole S256x128, pay⟩]) := by
  intro x y k hy hx hk0 hk1
  have hy1 : (y 1).val < 256 := (y 1).isLt
  have hx1 : (x 1).val < 128 := (x 1).isLt
  let z : S256x128.Idx := Shape.pair (d := ![256, 128]) ⟨(y 1).val, hy1⟩ ⟨(x 1).val, hx1⟩
  have hz : (gBlkK L).view.emb z = x := by
    have ho := k1_off2_eq L
    refine Shape.idx_ext₂ ?_ ?_
    · show (k1_off2 L 0 + 1 * (y 1).val : ℕ) = _
      rw [ho, hx]; simp [wL, wid]; omega
    · show (k1_off2 L 1 + 1 * (x 1).val : ℕ) = _
      rw [ho]; simp
  have hr := congrFun (View.read_writes_whole (gBlkK L).view fg pay) z
  rw [View.read_apply, cast_eq, hz] at hr
  rw [hr, hpay]
  unfold SparseCore.gatherPayload
  rw [View.read_apply, cast_eq]
  have hrow : (SparseCore.rows lst hn hin (z gathers_S1024x128_S256x128.axis')).val = (C d y).toNat := by
    unfold SparseCore.rows
    show (lst _).toNat = _
    rw [hlst]
    congr 2
    have hc := cRowK_emb L (S256.rowMajor.symm ((z gathers_S1024x128_S256x128.axis').cast hn.symm))
    have hv : ((S256.rowMajor.symm ((z gathers_S1024x128_S256x128.axis').cast hn.symm)) 0).val = (y 1).val := by
      rw [← Shape.rowMajor_val_one, Equiv.apply_symm_apply]; rfl
    exact Shape.idx_ext₂ (hc.1.trans hy.symm) (hc.2.trans hv)
  refine hfp _ k ?_ ?_
  · rw [hk0, ← hrow]
    have := Shape.Gathers.idx_axis gathers_S1024x128_S256x128 (SparseCore.rows lst hn hin) z
    show _ = (0 + 1 * (gathers_S1024x128_S256x128.idx (SparseCore.rows lst hn hin) z 0).val : ℕ)
    rw [← this]; simp; try rfl
  · rw [hk1]
    have := Shape.Gathers.idx_of_ne gathers_S1024x128_S256x128 (SparseCore.rows lst hn hin) z 1 (by decide)
    show _ = (0 + 1 * (gathers_S1024x128_S256x128.idx (SparseCore.rows lst hn hin) z 1).val : ℕ)
    rw [this]; simp; rfl

set_option maxHeartbeats 4000000 in
/-- The task on vector subcore `(L 0, L 1)` of device `d`: its row of candidates fetched and waited for, the rows
    they name gathered and waited for, those written to its block and waited for. -/
theorem tile_body (hF : (K (F := F)).Facts) (hC : ∀ d x, (C d x).toNat < 1024) (O : CellTallies nD τ sig (HIx 1)) (W : Waits sig (HIx 1)) (hO : ∀ g, O g none = 0) :
    iprop(levAts (K (F := F)).L (K (F := F)).lev ∗ emp ∗ goAt e C d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_kernel L pV (Memref.isWhole_whole _) cV' (Memref.isWhole_whole _) gV (Memref.isWhole_whole _)
            sV (Memref.isWhole_whole _) rV (Memref.isWhole_whole _) cc1_scratch2 cc1_scoped0 cc1_scoped1)
          fun _ => iprop(tdAt e C d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_kernel_eq_skeleton]; unfold cc1__sc_gather_kernel_skel
  rw [(K (F := F)).scopedBufs_V hF d (cV L) (jV L), SparseCore.Cfg.scopedSems0_V (Val := Elt F) d (cV L) (jV L), ownSems0_V, ownBufs_V]
  iintro ⟨#Hlv, -, ⟨Hc, ⟨%fp, %hfp, Hp⟩, ⟨%fg, Hg⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hc' := (Entails.of_eq (pts_cRowK (F := F) d L _).symm) $$ Hc
  ihave Hg' := (Entails.of_eq (pts_gBlkK (F := F) d L _).symm) $$ Hg
  ihave Hp' := (Entails.of_eq (pts_pV (F := F) d L _ _).symm) $$ Hp
  ihave Hs' := (Entails.of_eq (pts_sV (F := F) d L _).symm) $$ Hs
  ihave Hr' := (Entails.of_eq (pts_rV (F := F) d L _).symm) $$ Hr
  sl_exec
  have hN : ∀ h : S1024x128.Gathers 0 S256x128, ∑ j, ((rV).slice (S256x128.rowRect h.axis' j) (S256x128.stride_rowRect h.axis' j)).view.dmaCredit
      = (rV).view.dmaCredit := by decide +kernel
  have hin : ∀ x, ((sV).view.read (Elt F) (View.write (Elt F) (sV).view fs (tile_body.sl.dma0 C d L) Finset.univ) x).toNat
      < S1024x128.size gathers_S1024x128_S256x128.axis := fun x => by
    have h := list_read C d L fs (tile_body.sl.dma0 C d L) rfl x
    rw [h]; exact hC d _
  iapply (SparseCore.wp_gatherFromWhole countersEmb 𝒱₀ (V d (cV L) (jV L)) none (hg := gathers_S1024x128_S256x128) (default : HIx 1)
      (rV).view.dmaCredit (hN _) (by decide) hin) $$ [Hp' Hr' Hs' HsemA]
  · isplitl [Hp']; · iexact Hp'
    isplitl [Hr']; · iexact Hr'
    isplitl [Hs']; · iexact Hs'
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hp', Hs'⟩, HsemA, HO⟩
  sl_exec
  sl_step
  isplitl [Hc' Hg']
  · isplitl [Hc']; · iapply (Entails.of_eq (pts_cRowK (F := F) d L _)); iexact Hc'
    iexists _; isplitr
    · ipureintro
      exact block_ok e C d L fp hfp fg _ (fun x => list_read C d L fs (tile_body.sl.dma0 C d L) rfl x) _ hin (tile_body.sl.dma0_1 C d L fp fs fr hin)
        (View.read_write_univ (v := (rV).view) fr _)
    · iapply (Entails.of_eq (pts_gBlkK (F := F) d L _)); iexact Hg'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr; rotate_left
  · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The coordinates of the task on subcore `s` of SparseCore `c`. -/
abbrev coordsV (c : Fin (grid1.bound 0)) (s : Fin (grid1.bound 1)) : grid1.Coords := fun | 0 => c | 1 => s | ⟨_ + 2, h⟩ => absurd h (Nat.not_lt.2 (Nat.le_add_left _ _))

/-- The gather's task on a tile. -/
theorem defs₀_vector (c : Fin τ.nSC) (s : Fin τ.nSub) :
    defs₀ (F := F) (.scVector c s) 1 ()
      = SparseCore.onTile hcore1 hsub1 (fun c s => cc1__sc_gather_kernel (coordsV c s)
          pV (Memref.isWhole_whole _) cV' (Memref.isWhole_whole _) gV (Memref.isWhole_whole _)
          sV (Memref.isWhole_whole _) rV (Memref.isWhole_whole _) cc1_scratch2 cc1_scoped0 cc1_scoped1) ⟨⟩ c s := rfl

omit [FloatOps F] in
/-- A task's recorded waits, widened to what the launch theorem allows. -/
theorem obl_post {thr : Thread nD τ} {A B G : sProp 𝕄} {O : CellTallies nD τ sig (HIx 1)} {W : Waits sig (HIx 1)} {q : Fin 1} :
    iprop(A ∗ B ∗ G ∗ ∃ W', ⌜∀ p ∈ W', p ∈ W ∨ p.2 = none⌝ ∗ owes thr O W')
      ⊢ iprop(A ∗ B ∗ G ∗ ∃ W', ⌜∀ p ∈ W', p ∈ W ∨ p.2 = none ∨ p.2 = some q⌝ ∗ owes thr O W') := by
  iintro ⟨HA, HB, HG, %W', %hW', HO⟩
  iframe HA; iframe HB; iframe HG
  iexists W'; isplitr
  · ipureintro; exact fun p hp => (hW' p hp).imp_right Or.inl
  · iexact HO

set_option maxRecDepth 16384 in
/-- The launch theorem's obligation of each task. -/
theorem tileObl (hF : (K (F := F)).Facts) (hC : ∀ d x, (C d x).toNat < 1024) : (K (F := F)).TileObl (D (F := F)) 𝒱 (P e C) v₀ 0 := by
  intro d c i O W hO _ _
  simp only [show (P e C).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body e C d (coordsV ⟨_, hci.1⟩ ⟨_, hci.2⟩) hF hC O W hO).trans (wp_mono frame _ _ fun _ => obl_post)

end Tile

/-- A SparseCore's sequencer hands its tasks what it was handed, and hands back what they do. -/
theorem vecSplit : (K (F := F)).VecSplit' (P e C) 0 := by
  intro d c
  show iprop(bigSep Finset.univ fun i => goAt e C d (widK c i)) ⊢ |={Set.univ}=> iprop(
      (bigSep Finset.univ fun i => goAt e C d (widK c i))
      ∗ ((bigSep Finset.univ fun i => tdAt e C d (widK c i)) -∗ bigSep Finset.univ fun i => tdAt e C d (widK c i)))
  iintro H; imodintro
  isplitl [H]; · iexact H
  iintro H; iexact H

/-! ## The call's operands, split among the thirty-two workers, and its results joined -/

omit [FloatOps F] in
/-- A worker's row of words as a rectangle's set. -/
theorem cSet_eq (w : Fin 32) : cSet w = (crow w).set := by
  show ((View.whole (main_v0_0_scv : Ref sig .scVector)).slice (crow w)).set = _
  rw [View.set_slice]; exact Finset.map_refl
omit [FloatOps F] in
/-- A worker's block as a rectangle's set. -/
theorem gSet_eq (w : Fin 32) : gSet w = (gblk w).set := by
  show ((View.whole (main_v1_scv : Ref sig .scVector)).slice (gblk w)).set = _
  rw [View.set_slice]; exact Finset.map_refl
omit [FloatOps F] in
/-- Different workers' rows of words are disjoint. -/
theorem cSet_disjoint : ∀ i ∈ (Finset.univ : Finset (Fin 32)), ∀ j ∈ (Finset.univ : Finset (Fin 32)), i ≠ j → Disjoint (cSet i) (cSet j) :=
  fun i _ j _ h => by rw [cSet_eq, cSet_eq]; exact Rect.part_disjoint cdiv h
omit [FloatOps F] in
/-- Different workers' blocks are disjoint. -/
theorem gSet_disjoint : ∀ i ∈ (Finset.univ : Finset (Fin 32)), ∀ j ∈ (Finset.univ : Finset (Fin 32)), i ≠ j → Disjoint (gSet i) (gSet j) :=
  fun i _ j _ h => by rw [gSet_eq, gSet_eq]; exact Rect.part_disjoint gdiv h
omit [FloatOps F] in
/-- The workers' rows are the whole table of words. -/
theorem cSet_cover : (Finset.univ : Finset (Fin 32)).biUnion cSet = Finset.univ :=
  (Finset.biUnion_congr rfl fun i _ => cSet_eq i).trans (Rect.biUnion_part cdiv)
omit [FloatOps F] in
/-- The workers' blocks are the whole gathered array. -/
theorem gSet_cover : (Finset.univ : Finset (Fin 32)).biUnion gSet = Finset.univ :=
  (Finset.biUnion_congr rfl fun i _ => gSet_eq i).trans (Rect.biUnion_part gdiv)

omit [FloatOps F] in
/-- The table of words is owned row by row. -/
theorem cPts_rows (d : Dev nD) (f : Buf (Elt F) (cLoc d)) :
    (cLoc d ↦{fullShare} f : sProp 𝕄) = bigSep Finset.univ fun w : Fin 32 => cLoc d ↦[cSet w]{fullShare} f := by
  rw [← pointsTo_biUnion Finset.univ (ℓ := cLoc d) cSet cSet_disjoint, cSet_cover]; try rfl
omit [FloatOps F] in
/-- The gathered array is owned block by block. -/
theorem gPts_blks (d : Dev nD) (f : Buf (Elt F) (gLoc d)) :
    (gLoc d ↦{fullShare} f : sProp 𝕄) = bigSep Finset.univ fun w : Fin 32 => gLoc d ↦[gSet w]{fullShare} f := by
  rw [← pointsTo_biUnion Finset.univ (ℓ := gLoc d) gSet gSet_disjoint, gSet_cover]; try rfl
omit [FloatOps F] in
/-- The padded codebook is owned in 32 shares. -/
theorem pPts_shares (d : Dev nD) (f : Buf (Elt F) (pLoc d)) :
    (pLoc d ↦{fullShare} f : sProp 𝕄) = bigSep Finset.univ fun w : Fin 32 => pLoc d ↦{pq w} f :=
  pointsTo_piecesOf Finset.univ f (by decide) fullShare

/-- The worker numbers are the pairs of a SparseCore and a task. -/
def widEquiv : Fin 2 × Fin 16 ≃ Fin 32 where
  toFun p := wid p.1 p.2
  invFun w := (⟨w.val % 2, by omega⟩, ⟨w.val / 2, by omega⟩)
  left_inv p := by
    obtain ⟨c, i⟩ := p
    apply Prod.ext <;> apply Fin.ext <;> simp [wid] <;> omega
  right_inv w := by apply Fin.ext; simp [wid]; omega

omit [FloatOps F] in
/-- What holds of every worker holds of every tile of every SparseCore. -/
theorem bigSep_workers (Φ : Fin 32 → sProp 𝕄) :
    (bigSep Finset.univ fun c : Fin ((K (F := F)).nCore 0) => bigSep Finset.univ fun i : Fin ((K (F := F)).nSub 0) => Φ (widK c i))
      = bigSep Finset.univ Φ := by
  rw [bigSep_univ_equiv widEquiv Φ, bigSep_univ_prod]
  rfl

/-- The candidates at their known words, a padded codebook and the gathered array's buffer start the call. -/
theorem starts (d : Dev nD) :
    iprop((cLoc d ↦{fullShare} (C d : Buf (Elt F) (cLoc d))) ∗ (∃ f, ⌜PadOK (e d) f⌝ ∗ pLoc d ↦{fullShare} f) ∗ ∃ f, gLoc d ↦{fullShare} f)
      ⊢ (bigSep Finset.univ fun c : Fin ((K (F := F)).nCore 0) => (P e C).st 0 d c : sProp 𝕄) := by
  show _ ⊢ (bigSep Finset.univ fun c : Fin ((K (F := F)).nCore 0) => bigSep Finset.univ fun i : Fin ((K (F := F)).nSub 0) => goAt e C d (widK c i) : sProp 𝕄)
  rw [bigSep_workers (fun w => goAt e C d w), bigSep_sep', bigSep_sep']
  iintro ⟨Hc, ⟨%fp, %hfp, Hp⟩, ⟨%fg, Hg⟩⟩
  have hp : (bigSep Finset.univ fun w => pShPts d w fp : sProp 𝕄) ⊢ bigSep Finset.univ fun w => iprop(∃ f, ⌜PadOK (e d) f⌝ ∗ pShPts d w f) := bigSep_mono fun w _ => by
    show (pShPts d w fp : sProp 𝕄) ⊢ iprop(∃ f, ⌜PadOK (e d) f⌝ ∗ pShPts d w f)
    iintro H; iexists fp; isplitr; · ipureintro; exact hfp
    iexact H
  have hg : (bigSep Finset.univ fun w => gBlkPts d w fg : sProp 𝕄) ⊢ bigSep Finset.univ fun w => iprop(∃ f, gBlkPts d w f) := bigSep_mono fun w _ => by
    show (gBlkPts d w fg : sProp 𝕄) ⊢ iprop(∃ f, gBlkPts d w f)
    iintro H; iexists fg; iexact H
  isplitl [Hc]; · iapply (Entails.of_eq (cPts_rows d _)); iexact Hc
  isplitl [Hp]
  · ihave Hp := (Entails.of_eq (pPts_shares d fp)) $$ Hp
    iapply hp; iexact Hp
  · ihave Hg := (Entails.of_eq (gPts_blks d fg)) $$ Hg
    iapply hg; iexact Hg

/-- The call hands back the candidates as they were and the gathered array, filled everywhere. -/
theorem dones (d : Dev nD) :
    (bigSep Finset.univ fun c : Fin ((K (F := F)).nCore 0) => (P e C).dn 0 d c : sProp 𝕄)
      ⊢ iprop((cLoc d ↦{fullShare} (C d : Buf (Elt F) (cLoc d))) ∗ ∃ f, ⌜∀ w, BlkOK (e d) (C d) w f⌝ ∗ gLoc d ↦{fullShare} f) := by
  show (bigSep Finset.univ fun c : Fin ((K (F := F)).nCore 0) => bigSep Finset.univ fun i : Fin ((K (F := F)).nSub 0) => tdAt e C d (widK c i) : sProp 𝕄) ⊢ _
  rw [bigSep_workers (fun w => tdAt e C d w), bigSep_sep', cPts_rows]
  iintro ⟨Hc, Hg⟩
  isplitl [Hc]; · iexact Hc
  have hne : Nonempty (Buf (Elt F) (gLoc d)) := ⟨fun _ => e d (Shape.pair (d := ![1024, 64]) (0 : Fin 1024) (0 : Fin 64))⟩
  ihave H1 := (bigSep_exists_pi Finset.univ (fun w (f : Buf (Elt F) (gLoc d)) => iprop(⌜BlkOK (e d) (C d) w f⌝ ∗ gBlkPts d w f))) $$ Hg
  icases H1 with ⟨%fs, H1⟩
  ihave H2 := (bigSep_pure_sep Finset.univ (fun w => BlkOK (e d) (C d) w (fs w)) (fun w => gBlkPts d w (fs w))) $$ H1
  icases H2 with ⟨%hok, H2⟩
  ihave H3 := (pointsTo_biUnion_join (ℓ := gLoc d) (q := fullShare) (Val := Elt F) Finset.univ gSet fs (fs 0) gSet_disjoint) $$ H2
  icases H3 with ⟨%g, %hg, Hg⟩
  rw [gSet_cover]
  iexists g; isplitr
  · ipureintro
    intro w x y k hy hx hk0 hk1
    have hm : x ∈ gSet w := by
      rw [gSet_eq]
      refine Rect.mem_set_unit.mpr fun a => ?_
      have hy1 : (y 1).val < 256 := (y 1).isLt
      have hx1 : (x 1).val < 128 := (x 1).isLt
      match a with
      | 0 => simp [Shape.partIx, Shape.partSize]; omega
      | 1 => simp [Shape.partIx, Shape.partSize]; omega
    rw [hg w (Finset.mem_univ _) x hm]
    exact hok w (Finset.mem_univ _) x y k hy hx hk0 hk1
  · iexact Hg

end Cert.Proof.KernelIdealRun

end
-- ==== Proof.KernelIdealRegions.lean ====
/-
  The two TensorCore calls of the kernel, for any float instance: what each leaves in its staging buffers, as pure functions of
  what it reads (`candOf`; `codesOf`, `quantOf`), and the two pipeline regions run around the bodies.
-/
module

public import proofs.«01_k».proof.Proof.KernelIdealGather
public import proofs.«01_k».proof.Proof.Gen.KernelIdeal.Launch
public import proofs.«01_k».proof.Proof.Gen.KernelIdeal.Points
public import Idealize.ShloMosaic.Lib.Pipeline.Regions
public import Idealize.ShloMosaic.Lib.Pipeline.ArrRel
public import Idealize.ShloMosaic.Lib.WritesUnit
public import Idealize.ShloMosaic.Lib.VecWindow

@[expose] public section

noncomputable section

namespace Cert.Proof.KernelIdealRun

open Cert.KernelIdeal Cert.KernelIdeal.Gen

open Idealize.ShloMosaic Idealize.ShloMosaic.TcCoe
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The candidates, as a function of the inputs -/

/-- The four blocks of eight rows that the first call stores: the low ten bits of the first, second, third and fourth
    least packed word of each row. -/
def candBlocks (r : S2048x64.Idx → F .f32) (e : S1024x64.Idx → F .f32) : Fin 4 → IVec S8x256 32
  | 0 => k0_pay6 r e
  | 1 => k0_pay8 r e
  | 2 => k0_pay2 (k0_pay9 r e)
  | 3 => k0_pay3 (k0_pay4 r e) (k0_pay9 r e)

/-- The candidate words: block `j` in rows `8 j` to `8 j + 7`. -/
def candOf (r : S2048x64.Idx → F .f32) (e : S1024x64.Idx → F .f32) : S32x256.Idx → BitVec 32 := fun y =>
  candBlocks r e ⟨(y 0).val / 8, by have := (y 0).isLt; change (y 0).val < 32 at this; omega⟩
    (Shape.pair (d := ![8, 256]) (⟨(y 0).val % 8, Nat.mod_lt _ (by decide)⟩ : Fin 8) (y 1))

/-- A masked word is below 1024, and stays so under any rearrangement. -/
theorem andi_lt (v : IVec S2048x1 32) (h : S2048x1.ShapeCasts S8x256) (x : S8x256.Idx) :
    (shapeCast S8x256 (andi v (broadcast S2048x1 1023#32)) h x).toNat < 1024 := by
  show (v _ &&& 1023#32).toNat < 1024
  rw [BitVec.toNat_and]
  exact lt_of_le_of_lt Nat.and_le_right (by decide)

/-- Every candidate names a row of the codebook. -/
theorem candOf_lt (r : S2048x64.Idx → F .f32) (e : S1024x64.Idx → F .f32) (y : S32x256.Idx) : (candOf r e y).toNat < 1024 := by
  unfold candOf
  generalize (⟨(y 0).val / 8, _⟩ : Fin 4) = j
  match j with
  | 0 => exact andi_lt _ _ _
  | 1 => exact andi_lt _ _ _
  | 2 => exact andi_lt _ _ _
  | 3 => exact andi_lt _ _ _

/-- The first call's stores leave the candidate words: block `j` in the rows from `8 j`. -/
theorem read_candOf {κ : Kind} {sp : Space} (v : View sig κ sp S32x256 .i32) (f : v.ty.Contents (Elt F))
    (r : S2048x64.Idx → F .f32) (e : S1024x64.Idx → F .f32) :
    v.read (Elt F) (v.writes (Elt F) f
      [⟨Rect.unit (s := S32x256) ![24, 0] S8x256.size inb_S32x256_S8x256_24_0, candBlocks r e 3⟩,
        ⟨Rect.unit (s := S32x256) ![16, 0] S8x256.size inb_S32x256_S8x256_16_0, candBlocks r e 2⟩,
        ⟨Rect.unit (s := S32x256) ![8, 0] S8x256.size inb_S32x256_S8x256_8_0, candBlocks r e 1⟩,
        ⟨Rect.unit (s := S32x256) ![0, 0] S8x256.size inb_S32x256_S8x256_0_0, candBlocks r e 0⟩]) = candOf r e := by
  funext y
  have hy : (y 0).val < 32 := (y 0).isLt
  have hit : ∀ (j : Fin 4) (o : ℕ) (inb : ∀ a : Fin 2, (![o, 0] : Fin 2 → ℕ) a + S8x256.size a ≤ S32x256.size a) (L), o = 8 * j.val →
      o ≤ (y 0).val → (y 0).val < o + 8 →
      v.read (Elt F) (v.writes (Elt F) f (⟨Rect.unit (s := S32x256) ![o, 0] S8x256.size inb, candBlocks r e j⟩ :: L)) y = candOf r e y := by
    intro j o inb L ho h1 h2
    subst ho
    rw [View.read_writes_cons_rows_of_mem (d := ![32, 256]) v f inb (candBlocks r e j) L y
      (Shape.pair (d := ![8, 256]) (⟨(y 0).val % 8, Nat.mod_lt _ (by decide)⟩ : Fin 8) (y 1)) rfl
      (by show (y 0).val = 8 * j.val + (y 0).val % 8; omega) rfl]
    unfold candOf
    congr 1
    exact Fin.ext (by show j.val = (y 0).val / 8; omega)
  have skip : ∀ (o : ℕ) (inb : ∀ a : Fin 2, (![o, 0] : Fin 2 → ℕ) a + S8x256.size a ≤ S32x256.size a) (w) (L), ((y 0).val < o ∨ o + 8 ≤ (y 0).val) →
      v.read (Elt F) (v.writes (Elt F) f (⟨Rect.unit (s := S32x256) ![o, 0] S8x256.size inb, w⟩ :: L)) y
        = v.read (Elt F) (v.writes (Elt F) f L) y := by
    intro o inb w L h
    exact View.read_writes_cons_rows_of_not_mem (d := ![32, 256]) v f inb w L y rfl rfl h
  by_cases h3 : 24 ≤ (y 0).val
  · exact hit 3 24 _ _ rfl h3 (by omega)
  rw [skip 24 _ _ _ (by omega)]
  by_cases h2 : 16 ≤ (y 0).val
  · exact hit 2 16 _ _ rfl h2 (by omega)
  rw [skip 16 _ _ _ (by omega)]
  by_cases h1 : 8 ≤ (y 0).val
  · exact hit 1 8 _ _ rfl h1 (by omega)
  rw [skip 8 _ _ _ (by omega)]
  exact hit 0 0 _ _ rfl (by omega) (by omega)

/-- The first call's store of the codebook into the left half of its output. -/
theorem read_padOK {κ : Kind} {sp : Space} (v : View sig κ sp S1024x128 .f32) (f : v.ty.Contents (Elt F)) (e : S1024x64.Idx → F .f32) :
    PadOK e (v.read (Elt F) (v.writes (Elt F) f [⟨Rect.unit (s := S1024x128) ![0, 0] S1024x64.size inb_S1024x128_S1024x64_0_0, e⟩])) := by
  intro x k h0 h1
  exact View.read_writes_cons_rows_of_mem (d := ![1024, 128]) v f inb_S1024x128_S1024x64_0_0 e [] x k rfl
    (by rw [Nat.zero_add]; exact h0.symm) h1.symm

/-- The first call's body: from its four staging buffers, it leaves the inputs' as they were, the candidate words, and
    the codebook in the left half of the padded one. -/
theorem topj_run (c : Dev nD) (arg0 : Memref sig .tc .vmem S2048x64 .f32) (harg0 : arg0.IsWhole) (arg1 : Memref sig .tc .vmem S1024x64 .f32)
    (harg1 : arg1.IsWhole) (arg2 : Memref sig .tc .vmem S32x256 .i32) (harg2 : arg2.IsWhole) (arg3 : Memref sig .tc .vmem S1024x128 .f32)
    (harg3 : arg3.IsWhole) (x0 : S2048x64.Idx → F .f32) (x1 : S1024x64.Idx → F .f32) (x2 : S32x256.Idx → BitVec 32)
    (x3 : S1024x128.Idx → F .f32) (Q : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (iprop(owns (c : Thread nD τ) arg0 fullShare x0 ∗ owns (c : Thread nD τ) arg1 fullShare x1
            ∗ owns (c : Thread nD τ) arg2 fullShare (candOf x0 x1)
            ∗ ∃ X, ⌜PadOK x1 X⌝ ∗ owns (c : Thread nD τ) arg3 fullShare X) -∗ Q ⟨⟩))
      ⊢ wp frame (wpE (defs₀ (F := F)) 𝒱₀ (c : Thread nD τ) none) Set.univ
          (cc0__topj_kernel arg0 harg0 arg1 harg1 arg2 harg2 arg3 harg3) Q := by
  simp only [cc0__topj_kernel_eq_skeleton]
  unfold cc0__topj_kernel_skel
  unfold owns
  iintro ⟨⟨%f0, %hf0, H0⟩, ⟨%f1, %hf1, H1⟩, ⟨%f2, %hf2, H2⟩, ⟨%f3, %hf3, H3⟩, Hk⟩
  sl_exec
  sl_step
  iapply Hk
  have h0 : arg0.view.readAt (Elt F) (Rect.unit (s := S2048x64) ![0, 0] S2048x64.size inb_S2048x64_S2048x64_0_0).toLoadRect f0 = x0 :=
    (View.readAt_full arg0.view f0 inb_S2048x64_S2048x64_0_0).trans hf0
  have h1 : arg1.view.readAt (Elt F) (Rect.unit (s := S1024x64) ![0, 0] S1024x64.size inb_S1024x64_S1024x64_0_0).toLoadRect f1 = x1 :=
    (View.readAt_full arg1.view f1 inb_S1024x64_S1024x64_0_0).trans hf1
  isplitl [H0]
  · iexists f0; isplitr; · ipureintro; exact hf0
    iexact H0
  isplitl [H1]
  · iexists f1; isplitr; · ipureintro; exact hf1
    iexact H1
  isplitl [H2]
  · iexists _; isplitr
    swap; · iexact H2
    ipureintro
    rw [← h0, ← h1]
    exact read_candOf arg2.view f2 _ _
  · iexists _; isplitr
    swap
    · iexists _; isplitr
      swap; · iexact H3
      ipureintro; rfl
    ipureintro
    rw [← h1]
    exact read_padOK arg3.view f3 _

/-! ## The rescoring call, as functions of what it reads -/

section Rescore

variable (r : S2048x64.Idx → F .f32) (b : S8192x128.Idx → F .f32) (C : S32x256.Idx → BitVec 32)

/-- The four slabs of gathered rows: rows `2048 j` to `2048 j + 2047`, the first sixty-four columns. -/
abbrev slab0 : S2048x64.Idx → F .f32 := fun x => b ((Rect.unit (s := S8192x128) ![0, 0] S2048x64.size inb_S8192x128_S2048x64_0_0).toLoadRect.idx x)
abbrev slab1 : S2048x64.Idx → F .f32 := fun x => b ((Rect.unit (s := S8192x128) ![2048, 0] S2048x64.size inb_S8192x128_S2048x64_2048_0).toLoadRect.idx x)
abbrev slab2 : S2048x64.Idx → F .f32 := fun x => b ((Rect.unit (s := S8192x128) ![4096, 0] S2048x64.size inb_S8192x128_S2048x64_4096_0).toLoadRect.idx x)
abbrev slab3 : S2048x64.Idx → F .f32 := fun x => b ((Rect.unit (s := S8192x128) ![6144, 0] S2048x64.size inb_S8192x128_S2048x64_6144_0).toLoadRect.idx x)

/-- The four blocks of candidate words, each eight rows. -/
abbrev words0 : S8x256.Idx → BitVec 32 := fun x => C ((Rect.unit (s := S32x256) ![0, 0] S8x256.size inb_S32x256_S8x256_0_0).toLoadRect.idx x)
abbrev words1 : S8x256.Idx → BitVec 32 := fun x => C ((Rect.unit (s := S32x256) ![8, 0] S8x256.size inb_S32x256_S8x256_8_0).toLoadRect.idx x)
abbrev words2 : S8x256.Idx → BitVec 32 := fun x => C ((Rect.unit (s := S32x256) ![16, 0] S8x256.size inb_S32x256_S8x256_16_0).toLoadRect.idx x)
abbrev words3 : S8x256.Idx → BitVec 32 := fun x => C ((Rect.unit (s := S32x256) ![24, 0] S8x256.size inb_S32x256_S8x256_24_0).toLoadRect.idx x)

/-- The four slabs side by side; the squared differences from the residual, transposed. -/
def slabs : FVec F S2048x256 .f32 := k2_pay4 (slab0 b) (slab1 b) (slab2 b) (slab3 b)
/-- The squared differences from the residual, transposed. -/
def sqDiffs : FVec F S256x2048 .f32 := k2_pay5 r (slab0 b) (slab1 b) (slab2 b) (slab3 b)

/-- The exact squared distance of each row to its first, second, third and fourth candidate. -/
def rdist0 : FVec F S1x2048 .f32 :=
  k2_pay11 (k2_pay6 r (slab0 b) (slab1 b) (slab2 b) (slab3 b)) (k2_pay7 r (slab0 b) (slab1 b) (slab2 b) (slab3 b))
    (k2_pay9 r (slab0 b) (slab1 b) (slab2 b) (slab3 b)) (k2_pay10 r (slab0 b) (slab1 b) (slab2 b) (slab3 b))
/-- The second candidate's squared differences. -/
def sq1 : FVec F S64x2048 .f32 := k2_pay14 (sqDiffs r b)
/-- The second distance. -/
def rdist1 : FVec F S1x2048 .f32 := k2_pay19 (sq1 r b) (k2_pay15 (sq1 r b)) (k2_pay17 (sq1 r b)) (k2_pay18 (sq1 r b))
/-- All but the last group of the third candidate's sum. -/
def sum2 : FVec F S1x2048 .f32 := k2_pay28 (k2_pay25 (sqDiffs r b)) (k2_pay26 (sqDiffs r b)) (k2_pay27 (sqDiffs r b))
/-- The last group of that sum. -/
def part2 : FVec F S8x2048 .f32 := k2_pay29 (k2_pay25 (sqDiffs r b))
/-- The third distance. -/
def rdist2 : FVec F S1x2048 .f32 := k2_pay30 (sum2 r b) (part2 r b)
/-- The fourth distance. -/
def rdist3 : FVec F S1x2048 .f32 :=
  k2_pay40 (k2_pay36 (sqDiffs r b)) (k2_pay37 (sqDiffs r b)) (k2_pay38 (sqDiffs r b)) (k2_pay39 (sqDiffs r b))

/-- After the second candidate: the best distance, its code, and which candidate it is. -/
def best1 : FVec F S1x2048 .f32 := k2_pay22 (rdist0 r b) (k2_pay12 (F := F) (words0 C)) (sq1 r b) (k2_pay15 (sq1 r b)) (k2_pay17 (sq1 r b)) (k2_pay18 (sq1 r b)) (words1 C)
/-- The code of the better of the first two. -/
def code1 : IVec S1x2048 32 := k2_pay23 (rdist0 r b) (k2_pay12 (F := F) (words0 C)) (sq1 r b) (k2_pay15 (sq1 r b)) (k2_pay17 (sq1 r b)) (k2_pay18 (sq1 r b)) (words1 C)
/-- Which of the first two it is. -/
def which1 : IVec S1x2048 32 := k2_pay24 (rdist0 r b) (k2_pay12 (F := F) (words0 C)) k2_pay13 (sq1 r b) (k2_pay15 (sq1 r b)) (k2_pay17 (sq1 r b)) (k2_pay18 (sq1 r b)) (words1 C)

/-- After the third candidate. -/
def best2 : FVec F S1x2048 .f32 := k2_pay33 (best1 r b C) (code1 r b C) (sum2 r b) (part2 r b) (words2 C)
/-- The code of the best of the first three. -/
def code2 : IVec S1x2048 32 := k2_pay34 (best1 r b C) (code1 r b C) (sum2 r b) (part2 r b) (words2 C)
/-- Which of the first three it is. -/
def which2 : IVec S1x2048 32 := k2_pay35 (best1 r b C) (code1 r b C) (which1 r b C) (sum2 r b) (part2 r b) (words2 C)

/-- Whether the fourth candidate is nearer than the best of the first three, and whether it is as near. -/
def nearer3 : IVec S1x2048 1 := k2_pay42 (best2 r b C) (k2_pay36 (sqDiffs r b)) (k2_pay37 (sqDiffs r b)) (k2_pay38 (sqDiffs r b)) (k2_pay39 (sqDiffs r b))
/-- Whether the fourth candidate is as near. -/
def equal3 : IVec S1x2048 1 := k2_pay43 (best2 r b C) (k2_pay36 (sqDiffs r b)) (k2_pay37 (sqDiffs r b)) (k2_pay38 (sqDiffs r b)) (k2_pay39 (sqDiffs r b))

/-- The codes that the rescoring call stores. -/
def codesOf : S1x2048.Idx → BitVec 32 := k2_pay2 (code2 r b C) (k2_pay41 (F := F) (words3 C)) (nearer3 r b C) (equal3 r b C)

/-- The quantised rows that the rescoring call stores. -/
def quantOf : S2048x64.Idx → F .f32 := k2_pay3 (slabs b) (code2 r b C) (which2 r b C) (k2_pay41 (F := F) (words3 C)) (nearer3 r b C) (equal3 r b C)

end Rescore

/-- A store of a whole buffer is read back. -/
theorem read_stored {κ : Kind} {sp : Space} {s : Shape} {e : EltTy} (v : View sig κ sp s e) (f : v.ty.Contents (Elt F)) {off : Fin s.rank → ℕ}
    (hoff : off = fun _ => 0) (inb : ∀ a, off a + s.size a ≤ s.size a) (w : s.Idx → Elt F e) :
    v.read (Elt F) (v.writes (Elt F) f [⟨Rect.unit off s.size inb, w⟩]) = w := by
  funext y
  exact View.read_writes_cons_unit_of_mem v f inb w [] y y hoff fun a => (Nat.zero_add _).symm

/-- The rescoring call's body: from its five staging buffers, it leaves the inputs' as they were, and the quantised rows and
    the codes in the outputs'. -/
theorem rescore_run (c : Dev nD) (arg0 : Memref sig .tc .vmem S2048x64 .f32) (harg0 : arg0.IsWhole) (arg1 : Memref sig .tc .vmem S8192x128 .f32)
    (harg1 : arg1.IsWhole) (arg2 : Memref sig .tc .vmem S32x256 .i32) (harg2 : arg2.IsWhole) (arg3 : Memref sig .tc .vmem S2048x64 .f32)
    (harg3 : arg3.IsWhole) (arg4 : Memref sig .tc .vmem S1x2048 .i32) (harg4 : arg4.IsWhole) (x0 : S2048x64.Idx → F .f32)
    (x1 : S8192x128.Idx → F .f32) (x2 : S32x256.Idx → BitVec 32) (x3 : S2048x64.Idx → F .f32) (x4 : S1x2048.Idx → BitVec 32)
    (Q : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (iprop(owns (c : Thread nD τ) arg0 fullShare x0 ∗ owns (c : Thread nD τ) arg1 fullShare x1
            ∗ owns (c : Thread nD τ) arg2 fullShare x2 ∗ owns (c : Thread nD τ) arg3 fullShare (quantOf x0 x1 x2)
            ∗ owns (c : Thread nD τ) arg4 fullShare (codesOf x0 x1 x2)) -∗ Q ⟨⟩))
      ⊢ wp frame (wpE (defs₀ (F := F)) 𝒱₀ (c : Thread nD τ) none) Set.univ
          (cc2__rescore_kernel arg0 harg0 arg1 harg1 arg2 harg2 arg3 harg3 arg4 harg4) Q := by
  simp only [cc2__rescore_kernel_eq_skeleton]
  unfold cc2__rescore_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  sl_exec
  sl_step
  iapply Hk
  have h0 : arg0.view.readAt (Elt F) (Rect.unit (s := S2048x64) ![0, 0] S2048x64.size inb_S2048x64_S2048x64_0_0).toLoadRect f0 = x0 :=
    (View.readAt_full arg0.view f0 inb_S2048x64_S2048x64_0_0).trans hf0
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  subst hf1 hf2
  isplitl [H3]
  · iexists _; isplitr
    swap; · iexact H3
    ipureintro
    rw [← h0]
    refine (read_stored arg3.view f3 (by funext a; fin_cases a <;> rfl) inb_S2048x64_S2048x64_0_0 _).trans ?_
    rfl
  · iexists _; isplitr
    swap; · iexact H4
    ipureintro
    rw [← h0]
    refine (read_stored arg4.view f4 (by funext a; fin_cases a <;> rfl) inb_S1x2048_S1x2048_0_0 _).trans ?_
    rfl

/-! ## The two regions -/

/-- A valuation of one device's TensorCore buffers. -/
abbrev Vals (F : FTy → Type) : Type := (d : Dev nD) → (b : Ref sig .tc) → Buf (Elt F) ((d : Thread nD τ).loc b)

abbrev adm : (p : Fin 2) → (pcfgs (F := F) p).Adm := fun p => (cfgs p).toPCfg_adm

/-- The waits recorded so far are below the handshakes of the calls from `n` on. -/
def low (d : Dev nD) (n : ℕ) : Set (SemLoc sig × HIx 1) := {p | (K (F := F)).lev (T d, p.1) p.2 ≤ 8 * n}

variable (V : Vals F)

/-- The first region's record: the inputs' staging buffers may be left at anything, the candidates' at the candidate
    words, the padded codebook's with the codebook in its left half. -/
def rd0 (c : Dev nD) : RDat τ (Elt F) (HIx 1) ℕ UU ℕ cfg0 c where
  A w := V c (Pipeline.arrRef spec0 w)
  after w _ _ X := match w with
    | ⟨0, _⟩ => True
    | ⟨1, _⟩ => True
    | ⟨2, _⟩ => X = candOf (V c main_arg0) (V c main_arg1)
    | ⟨3, _⟩ => PadOK (V c main_arg1) X
  Φ _ := Pipeline.scopedRest spec0 c
  q _ := fullShare
  owed _ := (K (F := F)).Otc c 0
  recorded _ := low (F := F) c 0

/-- The second region's record: the outputs' staging buffers at the quantised rows and the codes. -/
def rd2 (c : Dev nD) : RDat τ (Elt F) (HIx 1) ℕ UU ℕ cfg2 c where
  A w := V c (Pipeline.arrRef spec2 w)
  after w _ _ X := match w with
    | ⟨0, _⟩ => True
    | ⟨1, _⟩ => True
    | ⟨2, _⟩ => True
    | ⟨3, _⟩ => X = quantOf (V c main_arg0) (V c main_v1) (V c main_v0_0)
    | ⟨4, _⟩ => X = codesOf (V c main_arg0) (V c main_v1) (V c main_v0_0)
  Φ _ := Pipeline.scopedRest spec2 c
  q _ := fullShare
  owed _ := (K (F := F)).Otc c 1
  recorded _ := low (F := F) c 1

/-- The records of the two regions, by region. -/
def rdats : (p : Fin 2) → (c : Dev nD) → RDat τ (Elt F) (HIx 1) ℕ UU ℕ (Pipeline.pin (pcfgs (F := F)) adm p) c
  | ⟨0, _⟩ => rd0 V
  | ⟨1, _⟩ => rd2 V

/-- The block at index zero starts at the array's first element. -/
theorem block_zero {s : Shape} (a : Fin s.rank) (j : s.Idx) (n : ℕ) : 0 * n + 1 * (j a).val = (j a).val := by omega

/-- A fetch of a whole array leaves it in the staging buffer. -/
theorem finds0_0 (c : Dev nD) (Y) (h : (rd0 V c).Finds 0 t0_0 Y) : Y = V c main_arg0 := by
  obtain ⟨d, rfl⟩ := ((rd0 V c).finds_of_fetch (fetch0_0 t0_0) Y).mp h
  funext j
  have hm : (win0_0).moved (grid0.coords t0_0) j = true := rfl
  unfold RDat.fetched Pipeline.Window.fill
  refine (dif_pos (c := (_ : Bool) = true) hm).trans ?_
  exact congrArg (V c main_arg0) (funext fun a => Fin.ext (block_zero a j _))
/-- The first call finds the codebook. -/
theorem finds0_1 (c : Dev nD) (Y) (h : (rd0 V c).Finds 1 t0_0 Y) : Y = V c main_arg1 := by
  obtain ⟨d, rfl⟩ := ((rd0 V c).finds_of_fetch (fetch0_1 t0_0) Y).mp h
  funext j
  have hm : (win0_1).moved (grid0.coords t0_0) j = true := rfl
  unfold RDat.fetched Pipeline.Window.fill
  refine (dif_pos (c := (_ : Bool) = true) hm).trans ?_
  exact congrArg (V c main_arg1) (funext fun a => Fin.ext (block_zero a j _))
/-- The rescoring call finds the residuals. -/
theorem finds2_0 (c : Dev nD) (Y) (h : (rd2 V c).Finds 0 t2_0 Y) : Y = V c main_arg0 := by
  obtain ⟨d, rfl⟩ := ((rd2 V c).finds_of_fetch (fetch2_0 t2_0) Y).mp h
  funext j
  have hm : (win2_0).moved (grid2.coords t2_0) j = true := rfl
  unfold RDat.fetched Pipeline.Window.fill
  refine (dif_pos (c := (_ : Bool) = true) hm).trans ?_
  exact congrArg (V c main_arg0) (funext fun a => Fin.ext (block_zero a j _))
/-- The rescoring call finds the gathered rows. -/
theorem finds2_1 (c : Dev nD) (Y) (h : (rd2 V c).Finds 1 t2_0 Y) : Y = V c main_v1 := by
  obtain ⟨d, rfl⟩ := ((rd2 V c).finds_of_fetch (fetch2_1 t2_0) Y).mp h
  funext j
  have hm : (win2_1).moved (grid2.coords t2_0) j = true := rfl
  unfold RDat.fetched Pipeline.Window.fill
  refine (dif_pos (c := (_ : Bool) = true) hm).trans ?_
  exact congrArg (V c main_v1) (funext fun a => Fin.ext (block_zero a j _))
/-- The rescoring call finds the candidate words. -/
theorem finds2_2 (c : Dev nD) (Y) (h : (rd2 V c).Finds 2 t2_0 Y) : Y = V c main_v0_0 := by
  obtain ⟨d, rfl⟩ := ((rd2 V c).finds_of_fetch (fetch2_2 t2_0) Y).mp h
  funext j
  have hm : (win2_2).moved (grid2.coords t2_0) j = true := rfl
  unfold RDat.fetched Pipeline.Window.fill
  refine (dif_pos (c := (_ : Bool) = true) hm).trans ?_
  exact congrArg (V c main_v0_0) (funext fun a => Fin.ext (block_zero a j _))

/-- The first call's body keeps its contract. -/
theorem body0 (c : Dev nD) : (rd0 V c).BodyObligation (defs₀ (F := F)) 𝒱₀ none Set.univ := fun t Y hY => by
  obtain rfl := fin_N0 t
  have e0 := finds0_0 V c (Y 0) (hY 0)
  have e1 := finds0_1 V c (Y 1) (hY 1)
  rw [bigSep_W0, bigSep_W0]
  rw [show (rd0 V c).Φ t0_0.succ = (rd0 V c).Φ t0_0.castSucc from rfl,
    show (rd0 V c).owesAt none t0_0.succ = (rd0 V c).owesAt none t0_0.castSucc from rfl]
  iintro ⟨HΦ, Howes, H0, H1, H2, H3⟩
  iapply (topj_run (F := F) c (win0_0.stage (cfg0.slots t0_0 0)) (hstage0_0 0) (win0_1.stage (cfg0.slots t0_0 1)) (hstage0_1 0)
    (win0_2.stage (cfg0.slots t0_0 2)) (hstage0_2 0) (win0_3.stage (cfg0.slots t0_0 3)) (hstage0_3 0) (Y 0) (Y 1) (Y 2) (Y 3))
  isplitl [H0]; · iexact H0
  isplitl [H1]; · iexact H1
  isplitl [H2]; · iexact H2
  isplitl [H3]; · iexact H3
  iintro ⟨H0, H1, H2, ⟨%X, %hX, H3⟩⟩
  isplitl [HΦ]; · iexact HΦ
  isplitl [Howes]; · iexact Howes
  isplitl [H0]; · iexists _; isplitr; swap; (· iexact H0); ipureintro; trivial
  isplitl [H1]; · iexists _; isplitr; swap; (· iexact H1); ipureintro; trivial
  isplitl [H2]
  · iexists _; isplitr; swap; (· iexact H2); ipureintro
    show candOf (Y 0) (Y 1) = candOf (V c main_arg0) (V c main_arg1)
    rw [e0, e1]
  · iexists _; isplitr; swap; (· iexact H3); ipureintro
    show PadOK (V c main_arg1) X
    rw [← e1]; exact hX

/-- The rescoring call's body keeps its contract. -/
theorem body2 (c : Dev nD) : (rd2 V c).BodyObligation (defs₀ (F := F)) 𝒱₀ none Set.univ := fun t Y hY => by
  obtain rfl := fin_N2 t
  have e0 := finds2_0 V c (Y 0) (hY 0)
  have e1 := finds2_1 V c (Y 1) (hY 1)
  have e2 := finds2_2 V c (Y 2) (hY 2)
  rw [bigSep_W2, bigSep_W2]
  rw [show (rd2 V c).Φ t2_0.succ = (rd2 V c).Φ t2_0.castSucc from rfl,
    show (rd2 V c).owesAt none t2_0.succ = (rd2 V c).owesAt none t2_0.castSucc from rfl]
  iintro ⟨HΦ, Howes, H0, H1, H2, H3, H4⟩
  iapply (rescore_run (F := F) c (win2_0.stage (cfg2.slots t2_0 0)) (hstage2_0 0) (win2_1.stage (cfg2.slots t2_0 1)) (hstage2_1 0)
    (win2_2.stage (cfg2.slots t2_0 2)) (hstage2_2 0) (win2_3.stage (cfg2.slots t2_0 3)) (hstage2_3 0)
    (win2_4.stage (cfg2.slots t2_0 4)) (hstage2_4 0) (Y 0) (Y 1) (Y 2) (Y 3) (Y 4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; trivial
  isplitl [H1]; · iexists _; isplitr; swap; (· iexact H1); ipureintro; trivial
  isplitl [H2]; · iexists _; isplitr; swap; (· iexact H2); ipureintro; trivial
  isplitl [H3]
  · iexists _; isplitr; swap; (· iexact H3); ipureintro
    show quantOf (Y 0) (Y 1) (Y 2) = quantOf (V c main_arg0) (V c main_v1) (V c main_v0_0)
    rw [e0, e1, e2]
  · iexists _; isplitr; swap; (· iexact H4); ipureintro
    show codesOf (Y 0) (Y 1) (Y 2) = codesOf (V c main_arg0) (V c main_v1) (V c main_v0_0)
    rw [e0, e1, e2]

/-- What the core owes before call `n`, its recorded waits below that call. -/
def owing (c : Dev nD) (n : ℕ) : sProp 𝕄 :=
  iprop(∃ W, ⌜(K (F := F)).WBelow (T c) W (8 * n)⌝ ∗ owes (T c) ((K (F := F)).Otc c n) W)

/-- What the core owes, as a region's record has it, and back. -/
theorem owesAt_intro {cfg : Pipeline.Cfg sig Λ₀} {c : Dev nD} (rd : RDat τ (Elt F) (HIx 1) ℕ UU ℕ cfg c) (t : Fin (cfg.N + 1)) (n : ℕ)
    (ho : rd.owed t = (K (F := F)).Otc c n) (hr : rd.recorded t = low (F := F) c n) :
    owing c n ⊢ (rd.owesAt none t : sProp 𝕄) := by
  unfold owing RDat.owesAt Pipeline.owesWithin RDat.bound
  rw [ho, hr]
  iintro ⟨%W, %hW, HO⟩
  iexists W
  isplitr; · ipureintro; exact fun p hp => Or.inl (hW p hp)
  iexact HO
/-- A region's debts are those of the launch. -/
theorem owesAt_elim {cfg : Pipeline.Cfg sig Λ₀} {c : Dev nD} (rd : RDat τ (Elt F) (HIx 1) ℕ UU ℕ cfg c) (t : Fin (cfg.N + 1)) (n : ℕ)
    (ho : rd.owed t = (K (F := F)).Otc c n) (hr : rd.recorded t = low (F := F) c n) :
    (rd.owesAt none t : sProp 𝕄) ⊢ owing c n := by
  unfold owing RDat.owesAt Pipeline.owesWithin RDat.bound
  rw [ho, hr]
  iintro ⟨%W, %hW, HO⟩
  iexists W
  isplitr
  · ipureintro
    intro p hp
    rcases hW hp with h | ⟨w, s, h⟩
    · exact h
    · rw [h]; exact Nat.zero_le _
  iexact HO

/-- The whole-array write-back of the first region's outputs, and of the second's. -/
theorem arr0_2 (c : Dev nD) (G) (h : (rd0 V c).ArrAt 2 cfg0.N G) : G = candOf (V c main_arg0) (V c main_arg1) := by
  obtain ⟨X, ⟨Y, -, hX⟩, hG⟩ := h.emb_eq_of_wholeAt (t₀ := t0_0) (by decide +kernel)
  have hX' : X = candOf (V c main_arg0) (V c main_arg1) := hX
  subst hX'
  funext j
  exact hG j
/-- The first call leaves the codebook in its padded output. -/
theorem arr0_3 (c : Dev nD) (G) (h : (rd0 V c).ArrAt 3 cfg0.N G) : PadOK (V c main_arg1) G := by
  obtain ⟨X, ⟨Y, -, hX⟩, hG⟩ := h.emb_eq_of_wholeAt (t₀ := t0_0) (by decide +kernel)
  have hX' : PadOK (V c main_arg1) X := hX
  intro x k h0 h1
  exact (hG x).trans (hX' x k h0 h1)
/-- The rescoring call leaves the quantised rows. -/
theorem arr2_3 (c : Dev nD) (G) (h : (rd2 V c).ArrAt 3 cfg2.N G) : G = quantOf (V c main_arg0) (V c main_v1) (V c main_v0_0) := by
  obtain ⟨X, ⟨Y, -, hX⟩, hG⟩ := h.emb_eq_of_wholeAt (t₀ := t2_0) (by decide +kernel)
  have hX' : X = quantOf (V c main_arg0) (V c main_v1) (V c main_v0_0) := hX
  subst hX'
  funext j
  exact hG j
/-- The rescoring call leaves the codes. -/
theorem arr2_4 (c : Dev nD) (G) (h : (rd2 V c).ArrAt 4 cfg2.N G) : G = codesOf (V c main_arg0) (V c main_v1) (V c main_v0_0) := by
  obtain ⟨X, ⟨Y, -, hX⟩, hG⟩ := h.emb_eq_of_wholeAt (t₀ := t2_0) (by decide +kernel)
  have hX' : X = codesOf (V c main_arg0) (V c main_v1) (V c main_v0_0) := hX
  subst hX'
  funext j
  exact hG j

/-- A whole TensorCore buffer at known contents. -/
def pt (c : Dev nD) (b : Ref sig .tc) (f : Buf (Elt F) ((c : Thread nD τ).loc b)) : sProp 𝕄 := ((c : Thread nD τ).loc b) ↦{fullShare} f

/-- The first call's arrays, one by one. -/
theorem arrays0 (c : Dev nD) (G) : ((rd0 V c).arrays G : sProp 𝕄)
    = iprop(pt c main_arg0 (G 0) ∗ pt c main_arg1 (G 1) ∗ pt c main_v0_0 (G 2) ∗ pt c main_v0_1 (G 3)) := by
  unfold RDat.arrays
  rw [bigSep_W0]
  simp only [Memref.view_whole, View.set_whole]
  rfl
/-- The rescoring call's arrays, one by one. -/
theorem arrays2 (c : Dev nD) (G) : ((rd2 V c).arrays G : sProp 𝕄)
    = iprop(pt c main_arg0 (G 0) ∗ pt c main_v1 (G 1) ∗ pt c main_v0_0 (G 2) ∗ pt c main_v2_0 (G 3) ∗ pt c main_v2_1 (G 4)) := by
  unfold RDat.arrays
  rw [bigSep_W2]
  simp only [Memref.view_whole, View.set_whole]
  rfl
/-- The first call's arrays after some steps, one by one. -/
theorem arraysAt0 (c : Dev nD) (n : ℕ) : ((rd0 V c).arraysAt n : sProp 𝕄)
    = iprop((∃ f, ⌜(rd0 V c).ArrAt 0 n f⌝ ∗ pt c main_arg0 f) ∗ (∃ f, ⌜(rd0 V c).ArrAt 1 n f⌝ ∗ pt c main_arg1 f)
      ∗ (∃ f, ⌜(rd0 V c).ArrAt 2 n f⌝ ∗ pt c main_v0_0 f) ∗ (∃ f, ⌜(rd0 V c).ArrAt 3 n f⌝ ∗ pt c main_v0_1 f)) := by
  unfold RDat.arraysAt
  rw [bigSep_W0]
  simp only [Memref.view_whole, View.set_whole]
  rfl
/-- The rescoring call's arrays after some steps, one by one. -/
theorem arraysAt2 (c : Dev nD) (n : ℕ) : ((rd2 V c).arraysAt n : sProp 𝕄)
    = iprop((∃ f, ⌜(rd2 V c).ArrAt 0 n f⌝ ∗ pt c main_arg0 f) ∗ (∃ f, ⌜(rd2 V c).ArrAt 1 n f⌝ ∗ pt c main_v1 f)
      ∗ (∃ f, ⌜(rd2 V c).ArrAt 2 n f⌝ ∗ pt c main_v0_0 f) ∗ (∃ f, ⌜(rd2 V c).ArrAt 3 n f⌝ ∗ pt c main_v2_0 f)
      ∗ (∃ f, ⌜(rd2 V c).ArrAt 4 n f⌝ ∗ pt c main_v2_1 f)) := by
  unfold RDat.arraysAt
  rw [bigSep_W2]
  simp only [Memref.view_whole, View.set_whole]
  rfl

/-- No table is prefetched. -/
theorem prefHeld_none (p : Fin 2) (c : Dev nD) (q) (f) :
    (Pipeline.prefHeld (Ix := HIx 1) (Name := ℕ) (U := UU) (Lvl := ℕ) (Val := Elt F) (pcfgs (F := F) p).pre c q f : sProp 𝕄) = BI.emp := by
  unfold Pipeline.prefHeld
  rw [show (Finset.univ : Finset (Fin 0)) = ∅ from rfl]
  exact BI.bigSep_empty

/-- The handshakes owed are at no unnumbered wait. -/
theorem Otc_none (c : Dev nD) (n : ℕ) (g : GSem nD τ sig) : (K (F := F)).Otc (N := 1) c n g none = 0 := by
  by_contra h
  exact absurd ((K (F := F)).lev_of_Otc_pos (Nat.pos_of_ne_zero h)) (Nat.not_succ_le_zero _)

/-- The region of the first call, over its four arrays and what the core owes. -/
def reg0 : RDat.RegionSeg (pcfgs (F := F)) adm (rdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body0 V c
  hwaits c := RDat.cellsWaits_intro (Pipeline.pin (pcfgs (F := F)) adm) (rdats V) none 0 c fun w s t =>
    (K (F := F)).mayWait_none _ (Otc_none c 0)
  pre c := iprop(pt c main_arg0 (V c main_arg0) ∗ pt c main_arg1 (V c main_arg1) ∗ pt c main_v0_0 (V c main_v0_0)
    ∗ pt c main_v0_1 (V c main_v0_1) ∗ owing c 0)
  post c := iprop(pt c main_arg0 (V c main_arg0) ∗ pt c main_arg1 (V c main_arg1)
    ∗ pt c main_v0_0 (candOf (V c main_arg0) (V c main_arg1)) ∗ (∃ f, ⌜PadOK (V c main_arg1) f⌝ ∗ pt c main_v0_1 f) ∗ owing c 0)
  X _ := BI.emp
  Y _ := BI.emp
  Z _ := BI.emp
  hentry c := by
    rw [Pipeline.ownSems0_none, prefHeld_none, show rdats V 0 c = rd0 V c from rfl, arrays0]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owesAt_intro (rd0 V c) 0 0 rfl rfl); iexact HO
    isplitr <;> iempintro
  hin c := by
    rw [show (rdats V 0 c).Φ 0 = Pipeline.scopedRest spec0 c from rfl]
    iintro ⟨-, -, Hr⟩; iexact Hr
  hout c := by
    rw [Pipeline.ownSems0_none, show (rdats V 0 c).Φ (Fin.last _) = Pipeline.scopedRest spec0 c from rfl]
    iintro Hr
    isplitr; · iempintro
    isplitr; · iempintro
    iexact Hr
  hexit c := by
    rw [show rdats V 0 c = rd0 V c from rfl, arraysAt0]
    iintro ⟨⟨⟨%g0, %h0, H0⟩, ⟨%g1, %h1, H1⟩, ⟨%g2, %h2, H2⟩, ⟨%g3, %h3, H3⟩⟩, HO, -, -⟩
    have e0 : g0 = V c main_arg0 := by rw [(rd0 V c).ArrAt_in 0 rfl] at h0; exact h0
    have e1 : g1 = V c main_arg1 := by rw [(rd0 V c).ArrAt_in 1 rfl] at h1; exact h1
    have e2 := arr0_2 V c g2 h2
    have e3 := arr0_3 V c g3 h3
    subst e0 e1 e2
    imodintro
    isplitl [H0]; · iexact H0
    isplitl [H1]; · iexact H1
    isplitl [H2]; · iexact H2
    isplitl [H3]
    · iexists g3; isplitr; · ipureintro; exact e3
      iexact H3
    iapply (owesAt_elim (rd0 V c) (Fin.last _) 0 rfl rfl); iexact HO

/-- The region of the rescoring call, over its five arrays and what the core owes. -/
def reg2 : RDat.RegionSeg (pcfgs (F := F)) adm (rdats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2 V c
  hwaits c := RDat.cellsWaits_intro (Pipeline.pin (pcfgs (F := F)) adm) (rdats V) none 1 c fun w s t =>
    (K (F := F)).mayWait_none _ (Otc_none c 1)
  pre c := iprop(pt c main_arg0 (V c main_arg0) ∗ pt c main_v1 (V c main_v1) ∗ pt c main_v0_0 (V c main_v0_0)
    ∗ pt c main_v2_0 (V c main_v2_0) ∗ pt c main_v2_1 (V c main_v2_1) ∗ owing c 1)
  post c := iprop(pt c main_arg0 (V c main_arg0) ∗ pt c main_v1 (V c main_v1) ∗ pt c main_v0_0 (V c main_v0_0)
    ∗ pt c main_v2_0 (quantOf (V c main_arg0) (V c main_v1) (V c main_v0_0))
    ∗ pt c main_v2_1 (codesOf (V c main_arg0) (V c main_v1) (V c main_v0_0)) ∗ owing c 1)
  X _ := BI.emp
  Y _ := BI.emp
  Z _ := BI.emp
  hentry c := by
    rw [Pipeline.ownSems0_none, prefHeld_none, show rdats V 1 c = rd2 V c from rfl, arrays2]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]; · iapply (owesAt_intro (rd2 V c) 0 1 rfl rfl); iexact HO
    isplitr <;> iempintro
  hin c := by
    rw [show (rdats V 1 c).Φ 0 = Pipeline.scopedRest spec2 c from rfl]
    iintro ⟨-, -, Hr⟩; iexact Hr
  hout c := by
    rw [Pipeline.ownSems0_none, show (rdats V 1 c).Φ (Fin.last _) = Pipeline.scopedRest spec2 c from rfl]
    iintro Hr
    isplitr; · iempintro
    isplitr; · iempintro
    iexact Hr
  hexit c := by
    rw [show rdats V 1 c = rd2 V c from rfl, arraysAt2]
    iintro ⟨⟨⟨%g0, %h0, H0⟩, ⟨%g1, %h1, H1⟩, ⟨%g2, %h2, H2⟩, ⟨%g3, %h3, H3⟩, ⟨%g4, %h4, H4⟩⟩, HO, -, -⟩
    have e0 : g0 = V c main_arg0 := by rw [(rd2 V c).ArrAt_in 0 rfl] at h0; exact h0
    have e1 : g1 = V c main_v1 := by rw [(rd2 V c).ArrAt_in 1 rfl] at h1; exact h1
    have e2 : g2 = V c main_v0_0 := by rw [(rd2 V c).ArrAt_in 2 rfl] at h2; exact h2
    have e3 := arr2_3 V c g3 h3
    have e4 := arr2_4 V c g4 h4
    subst e0 e1 e2 e3 e4
    imodintro
    isplitl [H0]; · iexact H0
    isplitl [H1]; · iexact H1
    isplitl [H2]; · iexact H2
    isplitl [H3]; · iexact H3
    isplitl [H4]; · iexact H4
    iapply (owesAt_elim (rd2 V c) (Fin.last _) 1 rfl rfl); iexact HO

end Cert.Proof.KernelIdealRun
-- ==== Proof.KernelIdealRun.lean ====
/-
  The whole program: the candidate call, the SparseCore call and the rescoring call in order on the TensorCore, then the reshape of
  the codes; every run ends, quiescent, with the arguments unchanged and the two results at `quantOf` and `codesOf` of
  the inputs, the candidates and SOME gathered array whose first sixty-four columns are the candidates' codebook rows.
  For any float instance.
-/
module

public import proofs.«01_k».proof.Proof.KernelIdealRegions

@[expose] public section

noncomputable section

namespace Cert.Proof.KernelIdealRun

open Cert.KernelIdeal Cert.KernelIdeal.Gen

open Idealize.ShloMosaic Idealize.ShloMosaic.TcCoe
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays at launch and after the calls -/

/-- The two arguments, and the candidates they determine. -/
def argR (d : Dev nD) : FVec F S2048x64 .f32 := m ((SparseCore.T d).loc main_arg0)
/-- The codebook at the start. -/
def argE (d : Dev nD) : FVec F S1024x64 .f32 := m ((SparseCore.T d).loc main_arg1)
/-- The candidate words of the arguments. -/
def cand (d : Dev nD) : IVec S32x256 32 := candOf (argR m d) (argE m d)

/-- Every candidate word names a code. -/
theorem cand_lt (d : Dev nD) (x : S32x256.Idx) : (cand m d x).toNat < 1024 := candOf_lt _ _ x

/-- The arrays before the candidate call. -/
def V0 : Vals F := fun d b => m ((SparseCore.T d).loc b)
/-- The arrays before the rescoring call: the candidates in place, the gathered array at `g`. -/
def V1 (g : Dev nD → FVec F S8192x128 .f32) : Vals F := fun d =>
  Function.update (Function.update (fun b => m ((SparseCore.T d).loc b)) main_v0_0 (cand m d)) main_v1 (g d)

section V1
variable (g : Dev nD → FVec F S8192x128 .f32) (d : Dev nD)
/-- The gathered array before the rescoring call. -/
theorem V1_v1 : V1 m g d main_v1 = g d := Function.update_self _ _ _
/-- The candidate words before the rescoring call. -/
theorem V1_v00 : V1 m g d main_v0_0 = cand m d :=
  (Function.update_of_ne (show main_v0_0 ≠ main_v1 by decide) _ _).trans (Function.update_self _ _ _)
/-- The other arrays before the rescoring call are as at the start. -/
theorem V1_ne (b : Ref sig .tc) (h1 : b ≠ main_v1) (h0 : b ≠ main_v0_0) : V1 m g d b = m ((SparseCore.T d).loc b) :=
  (Function.update_of_ne h1 _ _).trans (Function.update_of_ne h0 _ _)
end V1

/-- The program's arrays, one by one. -/
theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1) ∗ pt d main_v0_0 (W main_v0_0)
      ∗ pt d main_v0_1 (W main_v0_1) ∗ (gLoc d ↦{fullShare} W main_v1) ∗ pt d main_v2_0 (W main_v2_0) ∗ pt d main_v2_1 (W main_v2_1)
      ∗ pt d main_v3 (W main_v3)) := by
  unfold unscopedBufs
  rw [show (Finset.univ.filter fun b : Ref sig .tc => ¬ b.isScoped)
      = {main_arg0, main_arg1, main_v0_0, main_v0_1, main_v1, main_v2_0, main_v2_1, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The two regions inside the SparseCore program -/

/-- The ghost state of pipeline `p` on core `d`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- The regions' ghost state is part of the launch's. -/
instance EP_landsIn : (EP : Emb UP 𝕄).LandsIn (upEmb : UEmb _ 𝕄) := by unfold EP; infer_instance

/-- A TensorCore call of @main runs as its region. -/
theorem wp_region [∀ e, Nonempty (Elt F e)] {V : Vals F} {p : Fin 2}
    (R : RDat.RegionSeg (pcfgs (F := F)) adm (rdats V) none defs₀ 𝒱₀ (K (F := F)).L (K (F := F)).lev p) (d : Dev nD) (Φ : PUnit → sProp 𝕄) :
    iprop((iprop(boundary (SparseCore.T d : Thread nD τ) ∗ R.post d) -∗ Φ ⟨⟩)
        ∗ boundary (SparseCore.T d : Thread nD τ) ∗ R.pre d ∗ levAts (K (F := F)).L (K (F := F)).lev ∗ ghost p d)
      ⊢ wp frame (wpE ((K (F := F)).defs (D (F := F))) 𝒱 (SparseCore.T d) none) Set.univ
          (Prog.lift (.customCall (SparseCore.inner (Pipeline.entry p)) ())) Φ := by
  have e : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun _ => .ret ⟨⟩) := rfl
  rw [e]
  have inj : Function.Injective (Pipeline.cellOf (nD := nD) (τ := τ) (Pipeline.pin (pcfgs (F := F)) adm)) := cellOf_inj
  have h := RDat.RegionSeg.wp (pcfgs (F := F)) adm (rdats V) none inj (EP (F := F)) (defs₀ (F := F)) 𝒱₀ (K (F := F)).L (K (F := F)).lev R d none
    (fun _ h => absurd h (Option.not_mem_none _)) (α := PUnit) (fun _ => .ret ⟨⟩) Φ
  unfold ghost
  iintro ⟨Hk, Hb, Hpre, HL, Hg, Ht⟩
  iapply ((K (F := F)).wp_liftProg (D (F := F)) 𝒱 (SparseCore.T d) Set.univ none _ _)
  iapply h
  isplitl [Hk]
  · iintro H
    rw [wp_ret]
    imodintro
    iapply Hk; iexact H
  isplitl [Hb]; · iexact Hb
  isplitl [Hpre]; · iexact Hpre
  isplitl [HL]; · iexact HL
  isplitl [Hg] <;> iassumption

/-- The candidate call, from the arguments and its two arrays. -/
theorem wp_topj [∀ e, Nonempty (Elt F e)] (d : Dev nD) (Φ : PUnit → sProp 𝕄) :
    iprop((iprop(boundary (SparseCore.T d : Thread nD τ) ∗ pt d main_arg0 (argR m d) ∗ pt d main_arg1 (argE m d) ∗ (cLoc d ↦{fullShare} cand m d)
            ∗ (∃ f, ⌜PadOK (argE m d) f⌝ ∗ pLoc d ↦{fullShare} f) ∗ owing d 0) -∗ Φ ⟨⟩)
        ∗ boundary (SparseCore.T d : Thread nD τ)
        ∗ iprop(pt d main_arg0 (argR m d) ∗ pt d main_arg1 (argE m d) ∗ pt d main_v0_0 (V0 m d main_v0_0) ∗ pt d main_v0_1 (V0 m d main_v0_1) ∗ owing d 0)
        ∗ levAts (K (F := F)).L (K (F := F)).lev ∗ ghost 0 d)
      ⊢ wp frame (wpE ((K (F := F)).defs (D (F := F))) 𝒱 (SparseCore.T d) none) Set.univ
          (Prog.lift (.customCall (SparseCore.inner (Pipeline.entry 0)) ())) Φ := wp_region (reg0 (V0 m)) d Φ

/-- The rescoring call, from the residuals, the gathered rows, the candidates and its two results. -/
theorem wp_rescore [∀ e, Nonempty (Elt F e)] (V : Vals F) (d : Dev nD) (Φ : PUnit → sProp 𝕄) (r : FVec F S2048x64 .f32) (b : FVec F S8192x128 .f32)
    (C : IVec S32x256 32) (q : FVec F S2048x64 .f32) (k : IVec S1x2048 32) (hr : V d main_arg0 = r) (hb : V d main_v1 = b) (hC : V d main_v0_0 = C)
    (hq : V d main_v2_0 = q) (hk : V d main_v2_1 = k) :
    iprop((iprop(boundary (SparseCore.T d : Thread nD τ) ∗ pt d main_arg0 r ∗ (gLoc d ↦{fullShare} b) ∗ (cLoc d ↦{fullShare} C)
            ∗ pt d main_v2_0 (quantOf r b C) ∗ pt d main_v2_1 (codesOf r b C) ∗ owing d 1) -∗ Φ ⟨⟩)
        ∗ boundary (SparseCore.T d : Thread nD τ)
        ∗ iprop(pt d main_arg0 r ∗ (gLoc d ↦{fullShare} b) ∗ (cLoc d ↦{fullShare} C) ∗ pt d main_v2_0 q ∗ pt d main_v2_1 k ∗ owing d 1)
        ∗ levAts (K (F := F)).L (K (F := F)).lev ∗ ghost 1 d)
      ⊢ wp frame (wpE ((K (F := F)).defs (D (F := F))) 𝒱 (SparseCore.T d) none) Set.univ
          (Prog.lift (.customCall (SparseCore.inner (Pipeline.entry 1)) ())) Φ := by
  subst hr hb hC hq hk
  exact wp_region (reg2 V) d Φ

/-! ## The launch element of the ghost state -/

/-- The launch's ghost element. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

abbrev PP : (K (F := F)).Pay (nD := nD) (Val := Elt F) (Name := ℕ) (U := UU) := P (argE m) (cand m)

/-- What each core is dealt: the ghost state of its two pipelines. -/
def G (d : Dev nD) : sProp 𝕄 := iprop((bigSep Finset.univ fun p => Pipeline.cellsGhost (Pipeline.pin (pcfgs (F := F)) adm) EP p d)
  ∗ bigSep Finset.univ fun p => Pipeline.toksInit (Pipeline.pin (pcfgs (F := F)) adm) EP p d)

/-- A device's ghost state is that of its two regions. -/
theorem G_split (d : Dev nD) : (G d : sProp 𝕄) ⊢ iprop(ghost 0 d ∗ ghost 1 d) := by
  unfold G ghost
  rw [show (Finset.univ : Finset (Fin 2)) = {0, 1} from rfl]
  rw [SparseCore.bigSep_insert' (by decide), SparseCore.bigSep_insert' (by decide), bigSep_singleton, bigSep_singleton]
  iintro ⟨⟨H0, H1⟩, T0, T1⟩
  isplitl [H0 T0]; · isplitl [H0] <;> iassumption
  isplitl [H1] <;> iassumption

/-- The launch's ghost element gives the handshakes' and the regions' ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀ G
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (PP (F := F) m).x q thr) = iprop(emp) from
    (bigSep_congr fun _ _ => bigSep_univ_of_subsingleton (0 : Fin 1)).trans (bigSep_emp_const _)]
  iempintro

/-! ## @main on the TensorCore -/

/-- The reshape at the end of @main, and the buffers it touches. -/
abbrev opR : HloOp τ sig (Elt F) := StableHlo.reshape main_v2_1 main_v3 (rfl : (.i32 : EltTy) = .i32) shapeCasts_S1x2048_S2048
abbrev c' : DevRef τ sig := (main_v2_1 : DevRef τ sig)
abbrev o' : DevRef τ sig := (main_v3 : DevRef τ sig)

/-- Ownership of the reshape's two arrays. -/
theorem held_pair (d : Dev nD) (W : Valuation τ sig (Elt F)) :
    (held (SparseCore.T d) {c', o'} W : sProp 𝕄) = iprop(pt d main_v2_1 (W c') ∗ pt d main_v3 (W o')) := by
  unfold held
  rw [SparseCore.bigSep_insert' (by decide), bigSep_singleton]
  rfl

/-- What @main leaves the claim: the arguments, and the results of SOME gathered array that holds the candidates' rows. -/
def FIN (d : Dev nD) : sProp 𝕄 := iprop(∃ g : FVec F S8192x128 .f32, ⌜∀ w, BlkOK (argE m d) (cand m d) w g⌝
  ∗ pt d main_arg0 (argR m d) ∗ pt d main_arg1 (argE m d) ∗ pt d main_v2_0 (quantOf (argR m d) g (cand m d))
  ∗ pt d main_v3 (shapeCast S2048 (codesOf (argR m d) g (cand m d)) shapeCasts_S1x2048_S2048))

/-- The TensorCore's state holds what it owes. -/
theorem tcSt_open (d : Dev nD) (n : ℕ) : ((K (F := F)).tcSt (nD := nD) (Val := Elt F) EH d n : sProp 𝕄) ⊢ iprop(owing d n ∗ (owing d n -∗ (K (F := F)).tcSt EH d n)) := by
  unfold SparseCore.Cfg.tcSt owing
  iintro ⟨HO, Hr⟩
  isplitl [HO]; · iexact HO
  iintro HO
  isplitl [HO]; · iexact HO
  iexact Hr

/-- @main runs: from the arrays at the start to the results of a gathered array that holds the candidates' rows. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hc, Hp, Hg, Hq, Hk, Ho⟩, Hts, -⟩, HG⟩
  ihave HG := (G_split d) $$ HG
  icases HG with ⟨HG0, HG1⟩
  ihave #HL := ((K (F := F)).ctx_levAts κ) $$ Hctx
  -- the candidate call
  ihave Hst := (tcSt_open d 0) $$ Hst
  icases Hst with ⟨HO, Hst⟩
  iapply (wp_topj m d _)
  isplitr [Hb H0 H1 Hc Hp HO HG0]; swap
  · isplitl [Hb]; · iexact Hb
    isplitl [H0 H1 Hc Hp HO]
    · isplitl [H0]; · iexact H0
      isplitl [H1]; · iexact H1
      isplitl [Hc]; · iexact Hc
      isplitl [Hp]; · iexact Hp
      iexact HO
    isplitr; · iexact HL
    iexact HG0
  iintro ⟨Hb, H0, H1, Hc, Hp, HO⟩
  ihave Hst := Hst $$ HO
  -- the SparseCore call
  iapply ((K (F := F)).wp_run (D (F := F)) 𝒱 (EH := EH) (P := PP m) κ d 0)
  isplitr; · iexact Hctx
  isplitl [Hst]; · iexact Hst
  isplitl [Hc Hp Hg]
  · iapply (starts (argE m) (cand m) d)
    isplitl [Hc]; · iexact Hc
    isplitl [Hp]; · iexact Hp
    iexists (m ((SparseCore.T d).loc main_v1)); iexact Hg
  iintro ⟨Hst, Hdn⟩
  ihave Hst := (Entails.of_eq (show ((K (F := F)).tcSt (nD := nD) (Val := Elt F) EH d ((0 : Fin 1).val + 1) : sProp 𝕄) = (K (F := F)).tcSt EH d 1 from rfl)) $$ Hst
  ihave Hdn := (dones (argE m) (cand m) d) $$ Hdn
  icases Hdn with ⟨Hc, %g, %hg, Hg⟩
  -- the rescoring call
  ihave Hst := (tcSt_open d 1) $$ Hst
  icases Hst with ⟨HO, Hst⟩
  iapply (wp_rescore (V1 m fun _ => g) d _ (argR m d) g (cand m d) (m ((SparseCore.T d).loc main_v2_0)) (m ((SparseCore.T d).loc main_v2_1))
    (V1_ne m _ d main_arg0 (by decide) (by decide)) (V1_v1 m _ d) (V1_v00 m _ d) (V1_ne m _ d main_v2_0 (by decide) (by decide))
    (V1_ne m _ d main_v2_1 (by decide) (by decide)))
  isplitr [Hb H0 Hg Hc Hq Hk HO HG1]; swap
  · isplitl [Hb]; · iexact Hb
    isplitl [H0 Hg Hc Hq Hk HO]
    · isplitl [H0]; · iexact H0
      isplitl [Hg]; · iexact Hg
      isplitl [Hc]; · iexact Hc
      isplitl [Hq]; · iexact Hq
      isplitl [Hk]; · iexact Hk
      iexact HO
    isplitr; · iexact HL
    iexact HG1
  iintro ⟨Hb, H0, Hg, Hc, Hq, Hk, HO⟩
  ihave Hst := Hst $$ HO
  -- the reshape of the codes
  iapply (wp_hlo_within 𝒱 (SparseCore.T d) none Set.univ (op := opR) (S := {c', o'}) (Finset.Subset.refl _)
    (V := Function.update (fun b => m (d, b)) c' (codesOf (argR m d) g (cand m d)))) $$ [Hb Hk Ho]
  · isplitl [Hb]; · iexact Hb
    rw [held_pair, Function.update_self, Function.update_of_ne (show o' ≠ c' by decide)]
    isplitl [Hk]; · iexact Hk
    iexact Ho
  iintro ⟨Hb, Hh⟩
  ihave Hh := (Entails.of_eq ((held_pair d _).trans (congrArg (fun x => iprop(_ ∗ pt d main_v3 x))
    ((StableHlo.reshape_result main_v2_1 main_v3 rfl shapeCasts_S1x2048_S2048 _ _ _).trans (by rw [Function.update_self]; rfl :
      _ = shapeCast S2048 (codesOf (argR m d) g (cand m d)) shapeCasts_S1x2048_S2048))))) $$ Hh
  icases Hh with ⟨-, Ho⟩
  rw [wp_ret]; imodintro; imodintro
  isplitl [Hst]; · iexact Hst
  isplitr [Hb Hts]
  · unfold FIN
    iexists g
    isplitr; · ipureintro; exact hg
    isplitl [H0]; · iexact H0
    isplitl [H1]; · iexact H1
    isplitl [Hq]; · iexact Hq
    iexact Ho
  isplitl [Hb] <;> iassumption

/-! ## The run -/

/-- What a final state shows of device `d`. -/
def fq (d : Dev nD) (s' : MemSt nD τ sig (Elt F)) : Prop :=
  (∃ g : FVec F S8192x128 .f32, (∀ w, BlkOK (argE m d) (cand m d) w g)
    ∧ s'.mem ((SparseCore.T d).loc main_v2_0) = quantOf (argR m d) g (cand m d)
    ∧ s'.mem ((SparseCore.T d).loc main_v3) = shapeCast S2048 (codesOf (argR m d) g (cand m d)) shapeCasts_S1x2048_S2048)
  ∧ s'.mem ((SparseCore.T d).loc main_arg0) = m ((SparseCore.T d).loc main_arg0) ∧ s'.mem ((SparseCore.T d).loc main_arg1) = m ((SparseCore.T d).loc main_arg1)

/-- A whole buffer held at `f` reads `f` in the state. -/
theorem agree (s' : Phys nD τ sig (Elt F)) (d : Dev nD) (b : Ref sig .tc) (f) :
    iprop(pt d b f ∗ SI s') ⊢ (iprop(⌜s'.mem.mem ((SparseCore.T d).loc b) = f⌝ ∗ SI s') : sProp 𝕄) := by
  unfold pt
  iintro ⟨Hi, HSI⟩
  ihave H := (persistent_entails_right (SI_pointsTo_agree (st := s') (ℓ := (SparseCore.T d).loc b) (I := Finset.univ) (q := fullShare) (f := f))) $$ [HSI Hi]
  · isplitl [HSI] <;> iassumption
  icases H with ⟨%h1, HSI, -⟩
  isplitr; · ipureintro; exact funext fun i => h1 i (Finset.mem_univ i)
  iexact HSI

/-- What @main leaves, read in the final memory. -/
theorem hfin (d : Dev nD) (s' : Phys nD τ sig (Elt F)) : iprop(FIN m d ∗ SI s') ⊢ (⌜fq m d s'.mem⌝ : sProp 𝕄) := by
  unfold FIN
  iintro ⟨⟨%g, %hg, H0, H1, Hq, Hk⟩, HSI⟩
  ihave H := (agree s' d main_arg0 _) $$ [H0 HSI]
  · isplitl [H0] <;> iassumption
  icases H with ⟨%e0, HSI⟩
  ihave H := (agree s' d main_arg1 _) $$ [H1 HSI]
  · isplitl [H1] <;> iassumption
  icases H with ⟨%e1, HSI⟩
  ihave H := (agree s' d main_v2_0 _) $$ [Hq HSI]
  · isplitl [Hq] <;> iassumption
  icases H with ⟨%e2, HSI⟩
  ihave H := (agree s' d main_v3 _) $$ [Hk HSI]
  · isplitl [Hk] <;> iassumption
  icases H with ⟨%e3, HSI⟩
  ipureintro
  exact ⟨⟨g, hg, e2, e3⟩, e0, e1⟩

/-- Every run of the program ends, nothing faulting, quiescent, the arguments unchanged and the results as `fq` says. -/
theorem run_main [∀ e, Nonempty (Elt F e)] :
    θ_run (Cert.KernelIdeal.defs (F := F)) (Cert.KernelIdeal.threads (F := F)) ⟨m, fun _ => 0, ρ⟩
      (fun r => (∀ d : Dev nD, fq m d r.2) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (argE m) (cand m) facts (cand_lt m))
    (fun q _ => match q with | 0 => SparseCore.Cfg.VecSplit.of_plain (vecSplit (argE m) (cand m)))
    m ρ main G (FIN m) (u₀ (F := F)) (sep_elim_left.trans (hu₀ m)) (hmain m ρ) (fun d s' => fq m d s'.mem) (hfin m) _ (fun _ h hz => ⟨h, hz⟩)

end Cert.Proof.KernelIdealRun

end
-- ==== Proof.Reference.lean ====
/-
  The reference: a straight line of host operations on the TensorCore, the two helpers (`argmin`, `take`) included. Its run: every
  buffer ends at the operations' fold over the launch contents; the two results as functions of the two arguments
  (`codesRef`, `quantRef`), and its frame.
-/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-! ## The results as functions of the arguments -/

/-- The squared distance of every residual from every code. -/
def dists (r : FVec F S2048x64 .f32) (e : FVec F S1024x64 .f32) : FVec F S2048x1024 .f32 :=
  let d : FVec F S2048x1024x64 .f32 := subf
    (broadcastInDim S2048x1024x64 ![0, 1, 2] bcast_S2048x1x64_S2048x1024x64_0_1_2 (broadcastInDim S2048x1x64 ![0, 2] bcast_S2048x64_S2048x1x64_0_2 r))
    (broadcastInDim S2048x1024x64 ![0, 1, 2] bcast_S1x1024x64_S2048x1024x64_0_1_2 (broadcastInDim S1x1024x64 ![1, 2] bcast_S1024x64_S1x1024x64_1_2 e))
  Host.reduceAdd (mulf d d) (constant S_ .f32 0x00000000#32) reducesTo_S2048x1024x64_S2048x1024_d2 h_S_

/-- The index of the nearest code: the second component of the arg-min's reduction. -/
def codesRef (r : FVec F S2048x64 .f32) (e : FVec F S1024x64 .f32) : IVec S2048 32 := fun j =>
  (Host.argReduce reducer_argmin_f32_i32 (dists r e) (iotaInDim S2048x1024 32 1) (constant S_ .f32 0x7F800000#32) (constantI S_ 32 0#32)
    reducesTo_S2048x1024_S2048_d1 h_S_ j).2

/-- The codes are the index parts of the arg-min. -/
theorem codesRef_eq (r : FVec F S2048x64 .f32) (e : FVec F S1024x64 .f32) : codesRef r e = fun j =>
    (Host.argReduce reducer_argmin_f32_i32 (dists r e) (iotaInDim S2048x1024 32 1) (constant S_ .f32 0x7F800000#32) (constantI S_ 32 0#32)
      reducesTo_S2048x1024_S2048_d1 h_S_ j).2 := rfl

/-- The index as the gather takes it: a negative one counted from the end. -/
def startRef (c : IVec S2048 32) : IVec S2048x1 32 :=
  broadcastInDim S2048x1 ![0] bcast_S2048_S2048x1_0
    (select (cmpi .slt c (broadcastInDim S2048 ![] bcast_S_S2048 (constantI S_ 32 0#32)))
      (addi c (broadcastInDim S2048 ![] bcast_S_S2048 (constantI S_ 32 1024#32))) c)

/-- Which indices are in range. -/
def inRef (s : IVec S2048x1 32) : IVec S2048 1 :=
  Host.reduce IntOp.andi
    (andi (cmpi .sge s (broadcastInDim S2048x1 ![] bcast_S_S2048x1 (constantI S_ 32 0#32)))
      (cmpi .sle s (broadcastInDim S2048x1 ![0, 1] bcast_S1x1_S2048x1_0_1 (broadcastInDim S1x1 ![1] bcast_S1_S1x1_1 (constantI S1 32 1023#32)))))
    (constantI S_ 1 1#1) reducesTo_S2048x1_S2048_d1 h_S_

/-- The rows of the codebook at the given indices. -/
def takeRef (e : FVec F S1024x64 .f32) (c : IVec S2048 32) : FVec F S2048x64 .f32 :=
  select (broadcastInDim S2048x64 ![0] bcast_S2048_S2048x64_0 (inRef (startRef c)))
    (Host.gather gather_S1024x64_S2048x1_S2048x64_1_0_n_n_0_1_164 e (startRef c))
    (broadcastInDim S2048x64 ![] bcast_S_S2048x64 (constant S_ .f32 0x7FC00000#32))

/-- The nearest code's row. -/
def quantRef (r : FVec F S2048x64 .f32) (e : FVec F S1024x64 .f32) : FVec F S2048x64 .f32 := takeRef e (codesRef r e)

/-! ## The run -/

/-- The operations up to the arg-min's two results. -/
abbrev opsA : List (HloOp τ sig (Elt F)) :=
  [ unary main_arg0 main_v0 (broadcastInDim S2048x1x64 ![0, 2] bcast_S2048x64_S2048x1x64_0_2),
    unary main_arg1 main_v1 (broadcastInDim S1x1024x64 ![1, 2] bcast_S1024x64_S1x1024x64_1_2),
    unary main_v0 main_v2 (broadcastInDim S2048x1024x64 ![0, 1, 2] bcast_S2048x1x64_S2048x1024x64_0_1_2),
    unary main_v1 main_v3 (broadcastInDim S2048x1024x64 ![0, 1, 2] bcast_S1x1024x64_S2048x1024x64_0_1_2),
    binary main_v2 main_v3 main_v4 (subf),
    binary main_v4 main_v4 main_v5 (mulf),
    nullary main_cst (constant S_ .f32 0x00000000#32),
    binary main_v5 main_cst main_v6 ((fun x v => Host.reduceAdd x v reducesTo_S2048x1024x64_S2048x1024_d2 h_S_)),
    TRef.nullary main_call0.v0 (iotaInDim S2048x1024 32 1),
    TRef.nullary main_call0.cst (constant S_ .f32 0x7F800000#32),
    TRef.nullary main_call0.c (constantI S_ 32 0#32),
    TRef.quaternary (.of main_v6) main_call0.v0 main_call0.cst main_call0.c main_call0.v1_0 (fun x y u v j => (Host.argReduce reducer_argmin_f32_i32 x y u v reducesTo_S2048x1024_S2048_d1 h_S_ j).1),
    TRef.quaternary (.of main_v6) main_call0.v0 main_call0.cst main_call0.c main_call0.v1_1 (fun x y u v j => (Host.argReduce reducer_argmin_f32_i32 x y u v reducesTo_S2048x1024_S2048_d1 h_S_ j).2) ]

/-- The operations of the take. -/
abbrev opsB : List (HloOp τ sig (Elt F)) :=
  [ TRef.nullary main_call1.c (constantI S_ 32 0#32),
    TRef.unary main_call1.c main_call1.v0 (broadcastInDim S2048 ![] bcast_S_S2048),
    TRef.binary (.of main_v7) main_call1.v0 main_call1.v1 (cmpi .slt),
    TRef.nullary main_call1.c_0 (constantI S_ 32 1024#32),
    TRef.unary main_call1.c_0 main_call1.v2 (broadcastInDim S2048 ![] bcast_S_S2048),
    TRef.binary (.of main_v7) main_call1.v2 main_call1.v3 addi,
    TRef.ternary main_call1.v1 main_call1.v3 (.of main_v7) main_call1.call0.v0 select,
    TRef.unary main_call1.call0.v0 main_call1.v5 (broadcastInDim S2048x1 ![0] bcast_S2048_S2048x1_0),
    TRef.nullary main_call1.c_1 (constantI S1 32 1023#32),
    TRef.nullary main_call1.c_2 (constantI S_ 32 0#32),
    TRef.unary main_call1.c_2 main_call1.v6 (broadcastInDim S2048x1 ![] bcast_S_S2048x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2048x1 ![0, 1] bcast_S1x1_S2048x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2048x1_S2048_d1 h_S_),
    TRef.binary (.of main_arg1) main_call1.v5 main_call1.v13 (fun x i => Host.gather gather_S1024x64_S2048x1_S2048x64_1_0_n_n_0_1_164 x i),
    TRef.unary main_call1.v12 main_call1.v14 (broadcastInDim S2048x64 ![0] bcast_S2048_S2048x64_0),
    TRef.nullary main_call1.cst (constant S_ .f32 0x7FC00000#32),
    TRef.unary main_call1.cst main_call1.v15 (broadcastInDim S2048x64 ![] bcast_S_S2048x64),
    TRef.ternary main_call1.v14 main_call1.v13 main_call1.v15 main_call1.v16 select ]

/-- The operations in order. -/
abbrev ops : List (HloOp τ sig (Elt F)) := opsA ++ opsB

set_option maxRecDepth 1024 in
/-- @main is that straight line. -/
theorem main_eq (c : Dev nD) : main (F := F) c = seq ops := by
  simp only [main, fn_argmin.body, fn_take.body, fn_where.body, opsA, opsB, List.cons_append, List.nil_append, seq, bind_assoc, pure_bind]
  rfl

/-- The operations run in two parts. -/
theorem after_ops (V : Valuation τ sig (Elt F)) : after ops V = after opsB (after opsA V) := rfl

/-- The first part leaves the codes. -/
theorem codesA (V : Valuation τ sig (Elt F)) :
    after opsA V (main_v7 : DevRef τ sig) = codesRef (V (main_arg0 : DevRef τ sig)) (V (main_arg1 : DevRef τ sig)) := by
  after_results_simp
  rfl

/-- The first part keeps the codebook. -/
theorem arg1A (V : Valuation τ sig (Elt F)) : after opsA V (main_arg1 : DevRef τ sig) = V (main_arg1 : DevRef τ sig) := by
  simp only [after_cons, after_nil]
  rfl

/-- The second part keeps the codes. -/
theorem codesB (V : Valuation τ sig (Elt F)) : after opsB V (main_v7 : DevRef τ sig) = V (main_v7 : DevRef τ sig) := by
  simp only [after_cons, after_nil]
  rfl

/-- The second part leaves the rows taken at the codes. -/
theorem takeB (V : Valuation τ sig (Elt F)) :
    after opsB V (main_v8 : DevRef τ sig) = takeRef (V (main_arg1 : DevRef τ sig)) (V (main_v7 : DevRef τ sig)) := by
  after_results_simp
  rfl

/-- The second result is `codesRef` of the arguments. -/
theorem codes_eq (V : Valuation τ sig (Elt F)) :
    after ops V (main_v7 : DevRef τ sig) = codesRef (V (main_arg0 : DevRef τ sig)) (V (main_arg1 : DevRef τ sig)) := by
  rw [after_ops, codesB, codesA]

/-- The first result is `quantRef` of the arguments. -/
theorem quant_eq (V : Valuation τ sig (Elt F)) :
    after ops V (main_v8 : DevRef τ sig) = quantRef (V (main_arg0 : DevRef τ sig)) (V (main_arg1 : DevRef τ sig)) := by
  rw [after_ops, takeB, codesA, arg1A]
  rfl

/-- The residuals end unchanged. -/
theorem arg0_eq (V : Valuation τ sig (Elt F)) : after ops V (main_arg0 : DevRef τ sig) = V (main_arg0 : DevRef τ sig) := by
  simp only [List.cons_append, List.nil_append, after_cons, after_nil]
  rfl

/-- The codebook ends unchanged. -/
theorem arg1_eq (V : Valuation τ sig (Elt F)) : after ops V (main_arg1 : DevRef τ sig) = V (main_arg1 : DevRef τ sig) := by
  simp only [List.cons_append, List.nil_append, after_cons, after_nil]
  rfl

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- Every operation touches arrays of the program only. -/
theorem ops_sub : (ops : List (HloOp τ sig (Elt F))).Forall fun op => op.bufs ⊆ tcRefs τ sig :=
  List.forall_append.2 ⟨⟨unary_bufs_sub .., unary_bufs_sub .., unary_bufs_sub .., unary_bufs_sub .., binary_bufs_sub .., binary_bufs_sub ..,
    nullary_bufs_sub .., binary_bufs_sub .., nullary_bufs_sub .., nullary_bufs_sub .., nullary_bufs_sub .., quaternary_bufs_sub ..,
    quaternary_bufs_sub ..⟩,
    ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub ..,
    nullary_bufs_sub .., unary_bufs_sub .., ternary_bufs_sub ..⟩⟩

/-- Every run of the reference ends with each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's frame: the arguments end unchanged; the program declares no semaphore. -/
theorem frame : Cert.quiescent_ReferenceIdeal := fun m ρ _ =>
  (θ_run Cert.ReferenceIdeal.defs _ _).mono
    (fun r h => ⟨fun c => ⟨(h c main_arg0).trans (arg0_eq _), (h c main_arg1).trans (arg1_eq _)⟩, sem_eq_zero_of_no_sems (by decide) r.2⟩)
    (run_main (F := Ideal) m ρ)

end Cert.Proof.Reference

end
-- ==== Proof.Selection.lean ====
/-
  The first minimiser of a row of distances, and the choice between two codes by distance and then by index.
-/
module

public import Idealize.ShloMosaic.PureOps
public import Idealize.ShloMosaic.PureOps.Ideal.Laws
public import Idealize.ShloMosaic.Lib.WordCmp

@[expose] public section

noncomputable section

namespace Cert.Proof.Selection

open Idealize.ShloMosaic Idealize.ShloMosaic.WordCmp

/-- A code's index as a word. -/
abbrev word (k : Fin 1024) : BitVec 32 := BitVec.ofNat 32 k.val

/-- A code's word, read as a signed integer, is its index. -/
theorem word_toInt (k : Fin 1024) : (word k).toInt = k.val := toInt_ofNat_of_lt (lt_of_lt_of_le k.isLt (by norm_num))

/-- A code's word, read as a natural number, is its index. -/
theorem word_toNat (k : Fin 1024) : (word k).toNat = k.val :=
  (BitVec.toNat_ofNat _ _).trans (Nat.mod_eq_of_lt (lt_of_lt_of_le k.isLt (by norm_num)))

/-- Different codes have different words. -/
theorem word_injective : Function.Injective word := fun a b h => Fin.ext (by rw [← word_toNat a, h, word_toNat])

/-- `k` is the first minimiser of `D`: no entry is less, and every earlier one is greater. -/
def First (D : Fin 1024 → EReal) (k : Fin 1024) : Prop := (∀ j, D k ≤ D j) ∧ ∀ j, j < k → D k < D j

/-- A choice of two values of one function is the value at the choice. -/
theorem select_map {α β : Type} (t : BitVec 1) (f : α → β) (a b : α) : Scalar.select t (f a) (f b) = f (Scalar.select t a b) := by
  unfold Scalar.select; split <;> rfl

/-- Whether a new code is taken over the best so far: it is nearer, or as near with a smaller index. -/
def take (d best : EReal) (c code : BitVec 32) : BitVec 1 :=
  IntOp.ori (BitVec.ofBool (decide (d < best))) (IntOp.andi (BitVec.ofBool (decide (d = best))) (IntOp.cmpi .slt c code))

/-- A new code is taken just if it is nearer, or as near with a smaller index. -/
theorem take_eq_one_iff (d best : EReal) (c code : BitVec 32) :
    take d best c code = 1#1 ↔ d < best ∨ d = best ∧ c.toInt < code.toInt := by
  unfold take
  rw [cmpi_slt_eq, andi_ofBool, ori_ofBool, ofBool_eq_one_iff]
  simp

/-- The better of a new code and the best so far. -/
def better (D : Fin 1024 → EReal) (new old : Fin 1024) : Fin 1024 := Scalar.select (take (D new) (D old) (word new) (word old)) new old

/-- The first minimiser, once met, is kept. -/
theorem better_first {D : Fin 1024 → EReal} {k : Fin 1024} (h : First D k) (new old : Fin 1024) (hk : new = k ∨ old = k) :
    better D new old = k := by
  unfold better Scalar.select
  by_cases ht : take (D new) (D old) (word new) (word old) = 1
  · rw [if_pos ht]
    rcases hk with rfl | rfl
    · rfl
    · rcases (take_eq_one_iff _ _ _ _).mp ht with h1 | ⟨h1, h2⟩
      · exact absurd (h.1 new) (not_le.mpr h1)
      · rw [word_toInt, word_toInt] at h2
        exact absurd h1.symm (h.2 new (by exact_mod_cast h2)).ne
  · rw [if_neg ht]
    rcases hk with rfl | rfl
    · by_contra hne
      refine ht ((take_eq_one_iff _ _ _ _).mpr ?_)
      rcases lt_or_eq_of_le (h.1 old) with h1 | h1
      · exact .inl h1
      · refine .inr ⟨h1, ?_⟩
        rw [word_toInt, word_toInt]
        rcases lt_or_gt_of_ne hne with h2 | h2
        · exact absurd h1 (h.2 old h2).ne
        · exact_mod_cast h2
    · rfl

/-- The best of four codes, taken in order. -/
def best (D : Fin 1024 → EReal) (c : Fin 4 → Fin 1024) : Fin 1024 := better D (c 3) (better D (c 2) (better D (c 1) (c 0)))

/-- The first minimiser is the best of any four codes it is among. -/
theorem best_first {D : Fin 1024 → EReal} {k : Fin 1024} (h : First D k) (c : Fin 4 → Fin 1024) (hk : ∃ i, c i = k) : best D c = k := by
  obtain ⟨i, hi⟩ := hk
  unfold best
  match i with
  | 0 => exact better_first h _ _ (.inr (better_first h _ _ (.inr (better_first h _ _ (.inr hi)))))
  | 1 => exact better_first h _ _ (.inr (better_first h _ _ (.inr (better_first h _ _ (.inl hi)))))
  | 2 => exact better_first h _ _ (.inr (better_first h _ _ (.inl hi)))
  | 3 => exact better_first h _ _ (.inl hi)

/-! ## The arg-min's reduction -/

/-- The order of pairs of a value and an index: by value, then by index. -/
def Le (p q : EReal × BitVec 32) : Prop := p.1 < q.1 ∨ p.1 = q.1 ∧ p.2.toInt ≤ q.2.toInt

/-- The order is reflexive. -/
theorem Le.refl (p : EReal × BitVec 32) : Le p p := .inr ⟨rfl, le_rfl⟩

/-- The order is transitive. -/
theorem Le.trans {p q s : EReal × BitVec 32} (h : Le p q) (h' : Le q s) : Le p s := by
  rcases h with h | ⟨e, h⟩ <;> rcases h' with h' | ⟨e', h'⟩
  · exact .inl (h.trans h')
  · exact .inl (e' ▸ h)
  · exact .inl (e ▸ h')
  · exact .inr ⟨e.trans e', h.trans h'⟩

/-- A fold by a body that gives the lesser of two pairs gives a pair met, at most every pair met. -/
theorem foldl_least (f : EReal × BitVec 32 → EReal × BitVec 32 → EReal × BitVec 32)
    (hf : ∀ p q, (f p q = p ∨ f p q = q) ∧ Le (f p q) p ∧ Le (f p q) q) (l : List (EReal × BitVec 32)) (p : EReal × BitVec 32) :
    (l.foldl f p = p ∨ l.foldl f p ∈ l) ∧ Le (l.foldl f p) p ∧ ∀ q ∈ l, Le (l.foldl f p) q := by
  induction l generalizing p with
  | nil => exact ⟨.inl rfl, Le.refl p, fun q h => absurd h List.not_mem_nil⟩
  | cons a l ih =>
    obtain ⟨h1, h2, h3⟩ := ih (f p a)
    obtain ⟨g1, g2, g3⟩ := hf p a
    rw [List.foldl_cons]
    refine ⟨?_, h2.trans g2, fun q hq => ?_⟩
    · rcases h1 with h1 | h1
      · rcases g1 with g1 | g1
        · exact .inl (h1.trans g1)
        · exact .inr (by rw [h1, g1]; exact List.mem_cons_self)
      · exact .inr (List.mem_cons_of_mem a h1)
    · rcases List.mem_cons.mp hq with rfl | hq
      · exact h2.trans g3
      · exact h3 q hq

end Cert.Proof.Selection

end
-- ==== Proof.RefValue.lean ====
/-
  The reference's two results at an index, at the extended reals: the code is the first minimiser of the row's squared
  distances, and the quantised row is that code.
-/
module

public import proofs.«01_k».proof.Proof.Reference
public import proofs.«01_k».proof.Proof.Selection
public import Idealize.ShloMosaic.Lib.Pointwise

@[expose] public section

noncomputable section

namespace Cert.Proof.Reference

open Cert.ReferenceIdeal Cert.ReferenceIdeal.Gen
open Idealize.ShloMosaic Idealize.ShloMosaic.Pointwise Idealize.ShloMosaic.WordCmp
open Cert.Proof.Selection

variable (r : FVec Ideal S2048x64 .f32) (e : FVec Ideal S1024x64 .f32) (n : Fin 2048)

/-- The squared distance of row `n` from code `k`. -/
def dist (k : Fin 1024) : EReal := ∑ x : Fin 64, (r (ix2 n x) - e (ix2 k x)) * (r (ix2 n x) - e (ix2 k x))

/-- The reference's distances at an index. -/
theorem dists_apply (k : Fin 1024) : dists (F := Ideal) r e (ix2 n k) = dist r e n k := by
  pointwise [dists]
  rfl

/-- The arg-min's body gives the lesser of two pairs. -/
theorem reducer_least (p q : EReal × BitVec 32) :
    (reducer_argmin_f32_i32 (F := Ideal) p q = p ∨ reducer_argmin_f32_i32 (F := Ideal) p q = q) ∧ Le (reducer_argmin_f32_i32 (F := Ideal) p q) p
      ∧ Le (reducer_argmin_f32_i32 (F := Ideal) p q) q := by
  obtain ⟨a, i⟩ := p
  obtain ⟨b, j⟩ := q
  unfold reducer_argmin_f32_i32 Le
  simp only [Ideal.cmpf_def, Ideal.cmp, cmpi_slt_eq, andi_ofBool, ori_ofBool, Scalar.select]
  rcases lt_trichotomy a b with h | h | h
  · simp [h]
  · subst h
    by_cases h' : i.toInt < j.toInt
    · simp [h', h'.le]
    · simp [h', not_lt.mp h']
  · simp [h, h.le, h.ne', not_lt.mpr h.le]

/-- The index of an arg-min is the left fold's, of its body over the pairs of the indices that drop to an index. -/
theorem argReduce_foldl {s t u : Shape} {axes : List (Fin s.rank)} (f : Ideal .f32 × BitVec 32 → Ideal .f32 × BitVec 32 → Ideal .f32 × BitVec 32)
    (x : FVec Ideal s .f32) (y : IVec s 32) (a : FVec Ideal u .f32) (b : IVec u 32) (h : s.ReducesTo axes t) (hu : 0 < u.numel)
    (c : IVec t 32) (hc : c = fun j => (Host.argReduce (F := Ideal) (φ := .f32) f x y a b h hu j).2) (j : t.Idx) :
    c j = ((Host.argReduceFiber x y h j).foldl f (a (Shape.Idx.first hu), b (Shape.Idx.first hu))).2 := by
  rw [hc, Ideal.argReduce_eq_reduce2]
  exact congrArg Prod.snd (Host.reduce2_eq_foldl_fiber f x y a b h hu j)

/-- The pairs that a two-operand reduction folds at an index: those of the indices that drop to it. -/
theorem mem_argReduceFiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨m, hm, rfl⟩
    exact ⟨_, hm, rfl⟩
  · rintro ⟨i, hi, rfl⟩
    exact ⟨s.rowMajor i, by rw [Equiv.symm_apply_apply]; exact hi, by rw [Equiv.symm_apply_apply]⟩

/-- The pairs folded at row `n`: each code's distance and index. -/
theorem mem_fiber (p : EReal × BitVec 32) :
    p ∈ Host.argReduceFiber (dists (F := Ideal) r e) (iotaInDim S2048x1024 32 1) reducesTo_S2048x1024_S2048_d1 (ix1 n)
      ↔ ∃ k : Fin 1024, p = (dist r e n k, word k) := by
  refine (mem_argReduceFiber _ _ _ _ p).trans ⟨?_, ?_⟩
  · rintro ⟨j, hj, hp⟩
    have h0 : j 0 = n := congrFun hj 0
    obtain ⟨k, rfl⟩ : ∃ k : Fin 1024, j = ix2 n k := ⟨j 1, by rw [← h0]; exact eq_ix2 j⟩
    refine ⟨k, hp.trans (Prod.ext (dists_apply r e n k) rfl)⟩
  · rintro ⟨k, hp⟩
    refine ⟨ix2 n k, ?_, hp.trans (Prod.ext (dists_apply r e n k).symm rfl)⟩
    funext d
    match d with
    | ⟨0, _⟩ => rfl

/-- The arg-min's initial value is the infinity. -/
theorem init_eq (i : S_.Idx) : constant (F := Ideal) S_ .f32 0x7F800000#32 i = (⊤ : EReal) := by
  rw [ValueIdx.constant_apply]
  simp [Ideal.ofBits, Ideal.ieee]

/-- The reference's code of row `n` is the first minimiser of its distances. -/
theorem codesRef_apply : ∃ k : Fin 1024, First (dist r e n) k ∧ codesRef (F := Ideal) r e (ix1 n) = word k := by
  rw [argReduce_foldl _ _ _ _ _ _ _ _ (codesRef_eq r e)]
  have hmem := mem_fiber r e n
  generalize Host.argReduceFiber (dists (F := Ideal) r e) (iotaInDim S2048x1024 32 1) reducesTo_S2048x1024_S2048_d1 (ix1 n) = l at hmem
  obtain ⟨h1, -, h3⟩ := foldl_least _ reducer_least l
    (constant (F := Ideal) S_ .f32 0x7F800000#32 (Shape.Idx.first h_S_), constantI S_ 32 0#32 (Shape.Idx.first h_S_))
  rw [init_eq] at h1 h3 ⊢
  generalize hacc : l.foldl (reducer_argmin_f32_i32 (F := Ideal)) _ = acc at h1 h3 ⊢
  have hin : acc ∈ l := by
    refine h1.elim (fun h => ?_) id
    have h0 := h3 _ ((hmem _).mpr ⟨0, rfl⟩)
    rw [h] at h0 ⊢
    rcases h0 with h0 | ⟨h0, -⟩
    · exact absurd h0 not_top_lt
    · exact (hmem _).mpr ⟨0, Prod.ext h0 rfl⟩
  obtain ⟨k, rfl⟩ := (hmem _).mp hin
  refine ⟨k, ⟨fun j => ?_, fun j hj => ?_⟩, rfl⟩
  · rcases h3 _ ((hmem _).mpr ⟨j, rfl⟩) with h | ⟨h, -⟩
    · exact h.le
    · exact h.le
  · rcases h3 _ ((hmem _).mpr ⟨j, rfl⟩) with h | ⟨-, h⟩
    · exact h
    · rw [word_toInt, word_toInt] at h
      exact absurd hj (not_lt.mpr (by exact_mod_cast h))

/-- The dimensions of the gather of one row for each code. -/
abbrev rowGather := gather_S1024x64_S2048x1_S2048x64_1_0_n_n_0_1_164

/-- The gather at an index in range. -/
theorem gather_apply (s : IVec S2048x1 32) (k : Fin 1024) (hs : s (ix2 n 0) = word k) (d : Fin 64) :
    Host.gather rowGather e s (ix2 n d) = e (ix2 k d) := by
  unfold Host.gather
  congr 1
  funext a
  refine Fin.ext ?_
  show GatherDims.start rowGather (ix2 n d) s a + GatherDims.batchCoord rowGather (ix2 n d) a + GatherDims.offCoord rowGather (ix2 n d) a = _
  rw [GatherDims.batchCoord_eq_zero _ _ _ (fun h => by simp [gather_S1024x64_S2048x1_S2048x64_1_0_n_n_0_1_164] at h)]
  have h01 : a = 0 ∨ a = 1 := by
    match a with
    | ⟨0, _⟩ => exact Or.inl rfl
    | ⟨1, _⟩ => exact Or.inr rfl
  rcases h01 with rfl | rfl
  · have hm : (0 : Fin 2) ∈ rowGather.startIndexMap := List.mem_singleton.mpr rfl
    rw [GatherDims.offCoord_eq_zero _ _ _ (fun h => ((GatherDims.mem_sKept _ _).mp h).1 (List.mem_singleton.mpr rfl))]
    unfold GatherDims.start
    rw [dif_pos hm]
    have hsi : rowGather.siIdx (ix2 n d) ⟨List.idxOf (0 : Fin 2) rowGather.startIndexMap, List.idxOf_lt_length_iff.2 hm⟩ = ix2 n 0 := by
      funext b; refine Fin.ext ?_
      match b with
      | ⟨0, _⟩ => rfl
      | ⟨1, _⟩ => rfl
    rw [hsi, hs, word_toInt]
    show min k.val 1023 + 0 + 0 = k.val
    have := k.isLt
    omega
  · have hm : (1 : Fin 2) ∉ rowGather.startIndexMap := by
      show ¬ (1 : Fin 2) ∈ [(0 : Fin 2)]
      decide
    unfold GatherDims.start
    rw [dif_neg hm]
    have hk : (1 : Fin 2) ∈ rowGather.sKept := (GatherDims.mem_sKept _ _).mpr
      ⟨fun h => absurd (List.mem_singleton.mp h) (by decide), List.not_mem_nil⟩
    unfold GatherDims.offCoord
    rw [dif_pos hk]
    have hi : List.idxOf (1 : Fin 2) rowGather.sKept = 0 := by decide
    simp only [hi]
    show 0 + 0 + d.val = d.val
    omega

/-- The reference's row at an index in range. -/
theorem takeRef_apply (c : IVec S2048 32) (k : Fin 1024) (hc : c (ix1 n) = word k) (d : Fin 64) :
    takeRef (F := Ideal) e c (ix2 n d) = e (ix2 k d) := by
  have hs : startRef c (ix2 n 0) = word k := by
    pointwise [startRef]
    rw [hc, cmpi_slt_eq, word_toInt]
    simp [Scalar.select, not_lt.mpr (Int.natCast_nonneg k.val)]
  have hi : inRef (startRef c) (ix1 n) = 1#1 := by
    pointwise [inRef]
    rw [show (Finset.univ : Finset (Fin 1)) = {0} from rfl, Finset.fold_singleton, hs, cmpi_sge_eq, cmpi_sle_eq, word_toInt]
    have := k.isLt
    have e1 : (1023#32).toInt = 1023 := by decide
    have e2 : (k.val : ℤ) ≤ 1023 := by omega
    simp [e1, e2, andi_ofBool, IntOp.andi]
  pointwise [takeRef]
  rw [gather_apply e n _ k hs d, hi]
  rfl

end Cert.Proof.Reference

end
-- ==== Proof.Scores.lean ====
/-
  The precondition in the extended reals: finite residuals, scores below two, and at most four codes within the margin of the
  least distance. What follows from it for one residual.
-/
module

public import proofs.«01_k».proof.Proof.RefValue

@[expose] public section

noncomputable section

namespace Cert.Proof.Precondition

open Cert.ReferenceIdeal
open Idealize.ShloMosaic Idealize.ShloMosaic.Pointwise
open Cert.Proof.Reference (dist)

/-! ## The constants -/

/-- The literal 2. -/
theorem ofBits_two : Ideal.ofBits .f32 0x40000000#32 = ((2 : ℝ) : EReal) := by
  simp [Ideal.ofBits, Ideal.ieee]
  norm_num [← EReal.coe_mul]

/-- The literal 2^20. -/
theorem ofBits_scale : Ideal.ofBits .f32 0x49800000#32 = ((1048576 : ℝ) : EReal) := by
  simp [Ideal.ofBits, Ideal.ieee]
  norm_num [← EReal.coe_mul]

/-- The literal 2^-19. -/
theorem ofBits_margin : Ideal.ofBits .f32 0x36000000#32 = ((1 / 524288 : ℝ) : EReal) := by
  simp [Ideal.ofBits, Ideal.ieee]
  rw [← EReal.coe_mul]
  norm_num

/-- The literal 4. -/
theorem ofBits_four : Ideal.ofBits .f32 0x40800000#32 = ((4 : ℝ) : EReal) := by
  simp [Ideal.ofBits, Ideal.ieee]
  norm_num [← EReal.coe_mul]

/-- The literal infinity. -/
theorem ofBits_inf : Ideal.ofBits .f32 0x7F800000#32 = (⊤ : EReal) := by
  simp [Ideal.ofBits, Ideal.ieee]

/-! ## The three conditions -/

/-- The score of code `k` for row `n`: the code's square less twice its product with the row. -/
def score (r : FVec Ideal S2048x64 .f32) (e : FVec Ideal S1024x64 .f32) (n : Fin 2048) (k : Fin 1024) : EReal :=
  ∑ x : Fin 64, e (ix2 k x) * e (ix2 k x) - ((2 : ℝ) : EReal) * ∑ x : Fin 64, r (ix2 n x) * e (ix2 k x)

/-- The number of codes of row `n` within the margin of the row's least distance. -/
def count (r : FVec Ideal S2048x64 .f32) (e : FVec Ideal S1024x64 .f32) (n : Fin 2048) : EReal :=
  ∑ k : Fin 1024, if dist r e n k < Finset.univ.fold min (⊤ : EReal) (dist r e n) + ((1 / 524288 : ℝ) : EReal) then (1 : EReal) else 0

/-- The precondition, index by index. -/
structure Holds (r : FVec Ideal S2048x64 .f32) (e : FVec Ideal S1024x64 .f32) : Prop where
  finite : ∀ n x, max (r (ix2 n x)) (-(r (ix2 n x))) < (⊤ : EReal)
  score_lt : ∀ n k, max (score r e n k) (-(score r e n k)) < ((2 : ℝ) : EReal)
  few : ∀ n, count r e n ≤ ((4 : ℝ) : EReal)

/-! ## What they give -/

/-- What is below some bound in absolute value is a real number. -/
theorem real_of_abs_lt {x : EReal} {y : EReal} (h : max x (-x) < y) : ∃ a : ℝ, x = (a : EReal) := by
  induction x with
  | bot => simp at h
  | top => simp at h
  | coe a => exact ⟨a, rfl⟩

variable {r : FVec Ideal S2048x64 .f32} {e : FVec Ideal S1024x64 .f32}

/-- A code with a finite score is finite: an infinite coordinate makes its square, and so the score, infinite. -/
theorem Holds.code_finite (h : Holds r e) (k : Fin 1024) (x : Fin 64) : ∃ a : ℝ, e (ix2 k x) = (a : EReal) := by
  by_contra hn
  have hx : e (ix2 k x) * e (ix2 k x) = (⊤ : EReal) := by
    generalize e (ix2 k x) = y at hn
    revert hn
    induction y using EReal.rec with
    | bot => intro _; rfl
    | top => intro _; rfl
    | coe a => intro hn; exact absurd ⟨a, rfl⟩ hn
  have hsum : (∑ x : Fin 64, e (ix2 k x) * e (ix2 k x) : EReal) = ⊤ := by
    refine top_le_iff.mp ?_
    rw [← hx]
    refine Finset.single_le_sum (f := fun x : Fin 64 => (e (ix2 k x) * e (ix2 k x) : EReal)) (fun y _ => ?_) (Finset.mem_univ x)
    induction e (ix2 k y) using EReal.rec with
    | bot => exact le_top
    | top => exact le_top
    | coe a => exact_mod_cast mul_self_nonneg a
  have hs := h.score_lt 0 k
  unfold score at hs
  rw [hsum] at hs
  generalize ((2 : ℝ) : EReal) * ∑ x : Fin 64, r (ix2 0 x) * e (ix2 k x) = y at hs
  obtain ⟨a, ha⟩ := real_of_abs_lt hs
  induction y using EReal.rec with
  | bot => exact EReal.coe_ne_top a (ha.symm.trans (EReal.top_sub_bot))
  | top => exact EReal.coe_ne_bot a (ha.symm.trans rfl)
  | coe b => exact EReal.coe_ne_top a (ha.symm.trans (EReal.top_sub_coe b))

/-- A residual row and the codes as real numbers. -/
theorem Holds.reals (h : Holds r e) : ∃ (r' : Fin 2048 → Fin 64 → ℝ) (e' : Fin 1024 → Fin 64 → ℝ),
    (∀ n x, r (ix2 n x) = (r' n x : EReal)) ∧ ∀ k x, e (ix2 k x) = (e' k x : EReal) := by
  choose r' hr using fun n x => real_of_abs_lt (h.finite n x)
  choose e' he using fun k x => h.code_finite k x
  exact ⟨r', e', hr, he⟩

/-- Under the precondition the score of every code is a real number below 2 in absolute value, and the distance is the score plus a
    number which is the same for all codes. -/
theorem Holds.scores (h : Holds r e) (n : Fin 2048) : ∃ (s : Fin 1024 → ℝ) (c : ℝ),
    (∀ k, score r e n k = (s k : EReal)) ∧ (∀ k, |s k| < 2) ∧ ∀ k, dist r e n k = ((c + s k : ℝ) : EReal) := by
  obtain ⟨r', e', hr, he⟩ := h.reals
  have hs : ∀ k, score r e n k = ((∑ x, e' k x * e' k x - 2 * ∑ x, r' n x * e' k x : ℝ) : EReal) := by
    intro k
    simp only [score, hr, he]
    push_cast
    rfl
  refine ⟨fun k => ∑ x, e' k x * e' k x - 2 * ∑ x, r' n x * e' k x, ∑ x, r' n x * r' n x, hs, fun k => ?_, fun k => ?_⟩
  · have hlt := h.score_lt n k
    rw [hs, ← EReal.coe_neg, max_lt_iff, EReal.coe_lt_coe_iff, EReal.coe_lt_coe_iff] at hlt
    exact max_lt hlt.1 hlt.2
  · have hd : dist r e n k = ((∑ x, (r' n x - e' k x) * (r' n x - e' k x) : ℝ) : EReal) := by
      simp only [Reference.dist, hr, he]
      push_cast
      rfl
    rw [hd]
    congr 1
    show _ = ∑ x, r' n x * r' n x + (∑ x, e' k x * e' k x - 2 * ∑ x, r' n x * e' k x)
    rw [Finset.mul_sum, ← Finset.sum_sub_distrib, ← Finset.sum_add_distrib]
    exact Finset.sum_congr rfl fun x _ => by ring

/-- If code k is nearest to residual n, then at most three other codes have a score within 2⁻¹⁹ of its own. -/
theorem Holds.few_near (h : Holds r e) (n : Fin 2048) (k : Fin 1024) (hk : ∀ j, dist r e n k ≤ dist r e n j)
    {s : Fin 1024 → ℝ} {c : ℝ} (hd : ∀ j, dist r e n j = ((c + s j : ℝ) : EReal)) :
    (Finset.univ.filter fun j => j ≠ k ∧ s j < s k + 1/524288).card ≤ 3 := by
  have hmin : Finset.univ.fold min (⊤ : EReal) (dist r e n) = dist r e n k := by
    refine le_antisymm ((Finset.fold_min_le _).mpr (Or.inr ⟨k, Finset.mem_univ k, le_rfl⟩)) ?_
    exact Finset.le_fold_min _ |>.mpr ⟨le_top, fun j _ => hk j⟩
  have hcount := h.few n
  have hcard : count r e n = (((Finset.univ.filter fun j => s j < s k + 1/524288).card : ℝ) : EReal) := by
    have hiff : ∀ j, dist r e n j < dist r e n k + ((1/524288 : ℝ) : EReal) ↔ s j < s k + 1/524288 := by
      intro j
      rw [hd, hd, ← EReal.coe_add, EReal.coe_lt_coe_iff]
      constructor <;> intro hj <;> linarith
    unfold count
    rw [hmin]
    simp only [hiff]
    rw [Finset.sum_boole]
    simp
  rw [hcard, EReal.coe_le_coe_iff] at hcount
  have h4 : (Finset.univ.filter fun j => s j < s k + 1/524288).card ≤ 4 := by exact_mod_cast hcount
  have hsplit : (Finset.univ.filter fun j => j ≠ k ∧ s j < s k + 1/524288) = (Finset.univ.filter fun j => s j < s k + 1/524288).erase k := by
    ext j; simp
  rw [hsplit, Finset.card_erase_of_mem (by simp)]
  omega

end Cert.Proof.Precondition

end
-- ==== Proof.Words.lean ====
/-
  Facts about 32-bit words: the least word of a row and the least above a bound, four rounds of which reach every word with at
  most three words below it; and a score packed above a code's index.
-/
module

public import Idealize.ShloMosaic.PureOps
public import Idealize.ShloMosaic.PureOps.Ideal.Laws
public import Idealize.ShloMosaic.Lib.WordCmp

@[expose] public section

noncomputable section

namespace Cert.Proof.Words

open Idealize.ShloMosaic Idealize.ShloMosaic.WordCmp

/-! ## The least words of a row -/

/-- The greatest signed word. -/
abbrev top : BitVec 32 := 2147483647#32

/-- The least word of a row, in the signed order; the greatest word of an empty row. -/
def least {n : ℕ} (P : Fin n → BitVec 32) : BitVec 32 := Finset.univ.fold IntOp.minsi top P

/-- The least word of a row that is above a bound; the greatest word if there is none. -/
def leastAbove {n : ℕ} (P : Fin n → BitVec 32) (m : BitVec 32) : BitVec 32 :=
  least fun j => Scalar.select (IntOp.cmpi .sle (P j) m) top (P j)

/-- No word is above the top one. -/
theorem le_top (x : BitVec 32) : x.toInt ≤ top.toInt := by
  have h := @BitVec.toInt_lt 32 x
  have e : top.toInt = 2147483647 := by decide
  omega

/-- The lesser of two words is one of them. -/
theorem minsi_eq (x y : BitVec 32) : IntOp.minsi x y = x ∧ x.toInt ≤ y.toInt ∨ IntOp.minsi x y = y ∧ y.toInt ≤ x.toInt := by
  unfold IntOp.minsi
  by_cases h : x.toInt < y.toInt
  · left; rw [if_pos (by rw [BitVec.slt_iff_toInt_lt]; exact h)]; exact ⟨rfl, h.le⟩
  · right; rw [if_neg (by rw [BitVec.slt_iff_toInt_lt]; exact h)]; exact ⟨rfl, not_lt.mp h⟩

/-- The least of some words is the top one or one of them, and at most each of them. -/
theorem fold_le {n : ℕ} (P : Fin n → BitVec 32) (S : Finset (Fin n)) :
    ((S.fold IntOp.minsi top P = top) ∨ ∃ k, S.fold IntOp.minsi top P = P k) ∧ ∀ k ∈ S, (S.fold IntOp.minsi top P).toInt ≤ (P k).toInt := by
  induction S using Finset.induction_on with
  | empty => exact ⟨.inl rfl, fun k h => absurd h (Finset.notMem_empty k)⟩
  | insert a S ha ih =>
    rw [Finset.fold_insert ha]
    rcases minsi_eq (P a) (S.fold IntOp.minsi top P) with ⟨e, h⟩ | ⟨e, h⟩ <;> rw [e]
    · refine ⟨.inr ⟨a, rfl⟩, fun k hk => ?_⟩
      rcases Finset.mem_insert.mp hk with rfl | hk
      · exact le_rfl
      · exact h.trans (ih.2 k hk)
    · refine ⟨ih.1, fun k hk => ?_⟩
      rcases Finset.mem_insert.mp hk with rfl | hk
      · exact h
      · exact ih.2 k hk

/-- The least word is at most each word of the row. -/
theorem least_le {n : ℕ} (P : Fin n → BitVec 32) (k : Fin n) : (least P).toInt ≤ (P k).toInt := (fold_le P _).2 k (Finset.mem_univ k)

/-- The least word is the greatest there is, or one of the row. -/
theorem least_attained {n : ℕ} (P : Fin n → BitVec 32) : least P = top ∨ ∃ k, least P = P k := (fold_le P _).1

/-- A word of the row not reached by the least is above it, and the least is a word of the row. -/
theorem least_step {n : ℕ} (P : Fin n → BitVec 32) (k : Fin n) (hk : least P ≠ P k) :
    (least P).toInt < (P k).toInt ∧ ∃ j, least P = P j := by
  have h : (least P).toInt < (P k).toInt := lt_of_le_of_ne (least_le P k) fun h => hk (BitVec.eq_of_toInt_eq h)
  refine ⟨h, (least_attained P).resolve_left fun e => ?_⟩
  rw [e] at h
  exact absurd (le_top (P k)) (not_le.mpr h)

/-- A word at most the bound is replaced by the top one, a word above it is kept. -/
theorem select_above (x m : BitVec 32) :
    (x.toInt ≤ m.toInt ∧ Scalar.select (IntOp.cmpi .sle x m) top x = top) ∨ (m.toInt < x.toInt ∧ Scalar.select (IntOp.cmpi .sle x m) top x = x) := by
  rw [cmpi_sle_eq]
  by_cases h : x.toInt ≤ m.toInt
  · exact .inl ⟨h, by simp [Scalar.select, h]⟩
  · exact .inr ⟨not_le.mp h, by simp [Scalar.select, h]⟩

/-- A word of the row above the bound and not reached by the least above it is above that, and that is a word of the row
    above the bound. -/
theorem leastAbove_step {n : ℕ} (P : Fin n → BitVec 32) (m : BitVec 32) (k : Fin n) (hm : m.toInt < (P k).toInt) (hk : leastAbove P m ≠ P k) :
    (leastAbove P m).toInt < (P k).toInt ∧ ∃ j, leastAbove P m = P j ∧ m.toInt < (P j).toInt := by
  have ek : Scalar.select (IntOp.cmpi .sle (P k) m) top (P k) = P k :=
    ((select_above (P k) m).resolve_left fun h => absurd h.1 (not_le.mpr hm)).2
  obtain ⟨h, j, hj⟩ := least_step (fun j => Scalar.select (IntOp.cmpi .sle (P j) m) top (P j)) k (by simp only [ek]; exact hk)
  simp only [ek] at h
  refine ⟨h, j, ?_⟩
  rcases select_above (P j) m with ⟨_, e⟩ | ⟨h', e⟩
  · rw [hj, e] at h
    exact absurd (le_top (P k)) (not_le.mpr h)
  · exact ⟨hj.trans e, h'⟩

/-- A word of the row with at most three words below it is the least, or the least above that, or the least above that, or the
    least above that. -/
theorem among_four {n : ℕ} (P : Fin n → BitVec 32) (k : Fin n) (hcard : (Finset.univ.filter fun j => (P j).toInt < (P k).toInt).card ≤ 3) :
    P k = least P ∨ P k = leastAbove P (least P) ∨ P k = leastAbove P (leastAbove P (least P)) ∨
      P k = leastAbove P (leastAbove P (leastAbove P (least P))) := by
  by_contra hn
  push Not at hn
  obtain ⟨n0, n1, n2, n3⟩ := hn
  obtain ⟨l0, j0, e0⟩ := least_step P k n0.symm
  obtain ⟨l1, j1, e1, b1⟩ := leastAbove_step P _ k l0 n1.symm
  obtain ⟨l2, j2, e2, b2⟩ := leastAbove_step P _ k l1 n2.symm
  obtain ⟨l3, j3, e3, b3⟩ := leastAbove_step P _ k l2 n3.symm
  rw [e0] at l0 b1
  rw [e1] at l1 b2
  rw [e2] at l2 b3
  rw [e3] at l3
  have h01 : j0 ≠ j1 := fun h => by subst h; omega
  have h02 : j0 ≠ j2 := fun h => by subst h; omega
  have h03 : j0 ≠ j3 := fun h => by subst h; omega
  have h12 : j1 ≠ j2 := fun h => by subst h; omega
  have h13 : j1 ≠ j3 := fun h => by subst h; omega
  have h23 : j2 ≠ j3 := fun h => by subst h; omega
  have hsub : ({j0, j1, j2, j3} : Finset (Fin n)) ⊆ Finset.univ.filter fun j => (P j).toInt < (P k).toInt := by
    intro j hj
    simp only [Finset.mem_insert, Finset.mem_singleton] at hj
    refine Finset.mem_filter.mpr ⟨Finset.mem_univ j, ?_⟩
    rcases hj with rfl | rfl | rfl | rfl <;> assumption
  have h4 : ({j0, j1, j2, j3} : Finset (Fin n)).card = 4 := by
    rw [Finset.card_insert_of_notMem (by simp [h01, h02, h03]), Finset.card_insert_of_notMem (by simp [h12, h13]),
      Finset.card_insert_of_notMem (by simp [h23]), Finset.card_singleton]
  have := Finset.card_le_card hsub
  omega

/-! ## A score packed above an index -/

/-- A real cut to an integer toward zero. -/
def cut (y : ℝ) : ℤ := if 0 ≤ y then ⌊y⌋ else ⌈y⌉

/-- Cutting lowers a number by less than one. -/
theorem lt_cut (y : ℝ) : y - 1 < cut y := by
  unfold cut
  split
  · exact Int.sub_one_lt_floor y
  · have := Int.le_ceil y; linarith

/-- Cutting raises a number by less than one. -/
theorem cut_lt (y : ℝ) : (cut y : ℝ) < y + 1 := by
  unfold cut
  split
  · have := Int.floor_le y; linarith
  · exact Int.ceil_lt_add_one y

/-- The word packed from a score `y` and an index `k`: the score cut to an integer, times 1024, plus the index. -/
def packed (y : EReal) (k : ℕ) : BitVec 32 :=
  IntOp.addi (IntOp.muli (FloatOps.fptosi (F := Ideal) (φ := .f32) 32 y) 1024#32) (BitVec.ofNat 32 k)

/-- The low ten bits of a packed word are the index. -/
theorem packed_and (y : EReal) (k : ℕ) (hk : k < 1024) : IntOp.andi (packed y k) 1023#32 = BitVec.ofNat 32 k := by
  apply BitVec.eq_of_toNat_eq
  unfold packed IntOp.andi IntOp.addi IntOp.muli
  generalize (FloatOps.fptosi (F := Ideal) (φ := .f32) 32 y) = t
  rw [BitVec.toNat_and, BitVec.toNat_add, BitVec.toNat_mul]
  simp only [BitVec.toNat_ofNat]
  have : (1023 % 2 ^ 32 : ℕ) = 2 ^ 10 - 1 := by decide
  rw [this, Nat.and_two_pow_sub_one_eq_mod]
  omega

/-- A packed word as an integer, when the score is strictly within `2^21` of zero. -/
theorem packed_toInt (y : ℝ) (k : ℕ) (hk : k < 1024) (h : |y| < 2 ^ 21) : (packed (y : EReal) k).toInt = 1024 * cut y + k := by
  have hy := abs_lt.mp h
  have h1 : -(2 ^ 21) ≤ cut y := by
    have := lt_cut y
    have h2 : (-(2 ^ 21) - 1 : ℝ) < cut y := by linarith [hy.1]
    have : (-(2 ^ 21) - 1 : ℤ) < cut y := by exact_mod_cast h2
    omega
  have h2 : cut y < 2 ^ 21 := by
    unfold cut
    split
    · exact Int.floor_lt.mpr (by exact_mod_cast hy.2)
    · have h3 : y < 0 := not_le.mp (by assumption)
      have : ⌈y⌉ ≤ 0 := Int.ceil_le.mpr (by exact_mod_cast h3.le)
      omega
  have hf : FloatOps.fptosi (F := Ideal) (φ := .f32) 32 (y : EReal) = BitVec.ofInt 32 (cut y) := by
    show BitVec.ofInt 32 (Ideal.toIntClamped _ _ (y : EReal)) = _
    rw [Ideal.toIntClamped_coe]
    congr 1
    show max _ (min _ (cut y)) = cut y
    have e1 : (-(2 ^ (32 - 1) : ℕ) : ℤ) = -2147483648 := by norm_num
    have e2 : ((2 ^ (32 - 1) : ℕ) : ℤ) - 1 = 2147483647 := by norm_num
    rw [e1, e2]
    omega
  unfold packed IntOp.addi IntOp.muli
  rw [hf]
  generalize cut y = t at h1 h2
  rw [BitVec.toInt_add, BitVec.toInt_mul, BitVec.toInt_ofInt]
  have e3 : (1024#32).toInt = 1024 := by decide
  have e4 : (BitVec.ofNat 32 k).toInt = k := by
    rw [BitVec.toInt_ofNat', Int.bmod_def]; omega
  rw [e3, e4]
  simp only [Int.bmod_def]
  omega

/-- A packed word below another comes of a score less than two above the other's. -/
theorem lt_of_packed_lt (x y : ℝ) (j k : ℕ) (hj : j < 1024) (hk : k < 1024) (hx : |x| < 2 ^ 21) (hy : |y| < 2 ^ 21)
    (h : (packed (x : EReal) j).toInt < (packed (y : EReal) k).toInt) : x < y + 2 := by
  rw [packed_toInt x j hj hx, packed_toInt y k hk hy] at h
  have h1 : cut x ≤ cut y := by omega
  have h2 : (cut x : ℝ) ≤ cut y := by exact_mod_cast h1
  linarith [lt_cut x, cut_lt y]

end Cert.Proof.Words

end
-- ==== Proof.Candidates.lean ====
/-
  The first part's four candidate blocks, at the extended reals and index by index: under the precondition, the nearest
  code of a residual is among its four candidates.
-/
module

public import proofs.«01_k».proof.Proof.KernelIdealRegions
public import proofs.«01_k».proof.Proof.Scores
public import proofs.«01_k».proof.Proof.Words

@[expose] public section

noncomputable section

namespace Cert.Proof.Candidates

open Cert.KernelIdeal Cert.KernelIdeal.Gen
open Cert.Proof.KernelIdealRun
open Idealize.ShloMosaic Idealize.ShloMosaic.Pointwise
open Cert.Proof.Selection Cert.Proof.Words
open Cert.Proof.Precondition

variable (r : FVec Ideal S2048x64 .f32) (e : FVec Ideal S1024x64 .f32) (n : Fin 2048)

/-- The packed words of row `n`. -/
def row (k : Fin 1024) : BitVec 32 := packed (score r e n k * ((1048576 : ℝ) : EReal)) k.val

/-- The packed words as the first part computes them. -/
theorem packed_apply (k : Fin 1024) : k0_pay4 (F := Ideal) r e (ix2 n k) = row r e n k := by
  pointwise [k0_pay4]
  rw [ofBits_two, ofBits_scale]
  rfl

variable (g : Fin 8) (l : Fin 256)

/-- The row whose candidates lie at block row `g`, column `l`. -/
def rowAt : Fin 2048 := ⟨g.val * 256 + l.val, by omega⟩

/-- The four blocks' words: the low ten bits of the least packed word, and of the least above each in turn. -/
theorem block0 : k0_pay6 (F := Ideal) r e (ix2 g l) = IntOp.andi (least (row r e (rowAt g l))) 1023#32 := by
  rw [show row r e (rowAt g l) = fun k => k0_pay4 (F := Ideal) r e (ix2 (rowAt g l) k) from funext fun k => (packed_apply r e _ k).symm]
  pointwise [k0_pay6, k0_pay5]
  rfl

/-- The second block: the least packed word above the least. -/
theorem block1 : k0_pay8 (F := Ideal) r e (ix2 g l) =
    IntOp.andi (leastAbove (row r e (rowAt g l)) (least (row r e (rowAt g l)))) 1023#32 := by
  rw [show row r e (rowAt g l) = fun k => k0_pay4 (F := Ideal) r e (ix2 (rowAt g l) k) from funext fun k => (packed_apply r e _ k).symm]
  pointwise [k0_pay8, k0_pay7, k0_pay5]
  rfl

/-- The third block: the least above the second. -/
theorem block2 : k0_pay2 (k0_pay9 (F := Ideal) r e) (ix2 g l) =
    IntOp.andi (leastAbove (row r e (rowAt g l)) (leastAbove (row r e (rowAt g l)) (least (row r e (rowAt g l))))) 1023#32 := by
  rw [show row r e (rowAt g l) = fun k => k0_pay4 (F := Ideal) r e (ix2 (rowAt g l) k) from funext fun k => (packed_apply r e _ k).symm]
  pointwise [k0_pay2, k0_pay1, k0_pay9, k0_pay7, k0_pay5]
  rfl

/-- The fourth block: the least above the third. -/
theorem block3 : k0_pay3 (k0_pay4 (F := Ideal) r e) (k0_pay9 (F := Ideal) r e) (ix2 g l) =
    IntOp.andi (leastAbove (row r e (rowAt g l)) (leastAbove (row r e (rowAt g l)) (leastAbove (row r e (rowAt g l)) (least (row r e (rowAt g l)))))) 1023#32 := by
  rw [show row r e (rowAt g l) = fun k => k0_pay4 (F := Ideal) r e (ix2 (rowAt g l) k) from funext fun k => (packed_apply r e _ k).symm]
  pointwise [k0_pay3, k0_pay1, k0_pay9, k0_pay7, k0_pay5]
  rfl

/-- The nearest code of a row is the word of one of the four blocks at that row's place: at most three codes pack to a lesser
    word, for a lesser word comes of a score less than the margin above. -/
theorem nearest_block (h : Holds r e) (k : Fin 1024) (hk : First (Reference.dist r e (rowAt g l)) k) :
    ∃ j : Fin 4, candBlocks (F := Ideal) r e j (ix2 g l) = word k := by
  obtain ⟨s, c, hs, hlt, hd⟩ := h.scores (rowAt g l)
  have hrow : ∀ j, row r e (rowAt g l) j = packed ((s j * 1048576 : ℝ) : EReal) j.val := by
    intro j
    unfold row
    rw [hs, EReal.coe_mul]
  have hbound : ∀ j, |s j * 1048576| < 2 ^ 21 := by
    intro j
    rw [abs_mul, abs_of_pos (by norm_num : (0 : ℝ) < 1048576)]
    have := hlt j
    linarith
  have hcard : (Finset.univ.filter fun j => (row r e (rowAt g l) j).toInt < (row r e (rowAt g l) k).toInt).card ≤ 3 := by
    refine le_trans (Finset.card_le_card fun j hj => ?_) (h.few_near (rowAt g l) k hk.1 hd)
    have hj := (Finset.mem_filter.mp hj).2
    refine Finset.mem_filter.mpr ⟨Finset.mem_univ j, fun hjk => absurd hj (by rw [hjk]; exact lt_irrefl _), ?_⟩
    rw [hrow, hrow] at hj
    have := lt_of_packed_lt _ _ j.val k.val j.isLt k.isLt (hbound j) (hbound k) hj
    linarith
  have hand : IntOp.andi (row r e (rowAt g l) k) 1023#32 = word k := packed_and _ _ k.isLt
  rcases among_four _ k hcard with h0 | h0 | h0 | h0
  · exact ⟨0, (block0 r e g l).trans (by rw [← h0, hand])⟩
  · exact ⟨1, (block1 r e g l).trans (by rw [← h0, hand])⟩
  · exact ⟨2, (block2 r e g l).trans (by rw [← h0, hand])⟩
  · exact ⟨3, (block3 r e g l).trans (by rw [← h0, hand])⟩

end Cert.Proof.Candidates

end
-- ==== Proof.Rescore.lean ====
/-
  The rescoring part at the extended reals and index by index: the four exact squared distances of a residual, and the choice
  among its four candidates by distance and then by index.
-/
module

public import proofs.«01_k».proof.Proof.KernelIdealRegions
public import proofs.«01_k».proof.Proof.Selection
public import proofs.«01_k».proof.Proof.RefValue

@[expose] public section

noncomputable section

namespace Cert.Proof.Rescore

open Cert.KernelIdeal Cert.KernelIdeal.Gen
open Cert.Proof.KernelIdealRun
open Idealize.ShloMosaic Idealize.ShloMosaic.Pointwise
open Cert.Proof.Selection

/-! ## The distances -/

/-- Entry `8 i + j`. -/
def entry (w : Fin 64 → EReal) (i j : Fin 8) : EReal := w ⟨8 * i.val + j.val, by omega⟩

/-- The sum of eight entries in the order in which the rescoring part adds them. -/
def eight (w : Fin 64 → EReal) (i : Fin 8) : EReal :=
  ((entry w i 0 + entry w i 4) + (entry w i 2 + entry w i 6)) + ((entry w i 1 + entry w i 5) + (entry w i 3 + entry w i 7))

/-- The sum of all entries in that order is their sum. -/
theorem eights_sum (w : Fin 64 → EReal) :
    eight w 0 + eight w 1 + eight w 2 + eight w 3 + eight w 4 + eight w 5 + eight w 6 + eight w 7 = ∑ x, w x := by
  have h : ∀ i, eight w i = ∑ j, entry w i j := by
    intro i
    rw [Fin.sum_univ_eight]
    unfold eight
    ac_rfl
  rw [← Fin.sum_univ_eight (eight w)]
  simp only [h]
  rw [← Fintype.sum_prod_type', ← (finProdFinEquiv (m := 8) (n := 8)).sum_comp]
  refine Finset.sum_congr rfl fun p _ => ?_
  unfold entry
  exact congrArg w (Fin.ext (by simp [finProdFinEquiv]; omega))

variable (r : FVec Ideal S2048x64 .f32) (b : FVec Ideal S8192x128 .f32) (C : IVec S32x256 32) (n : Fin 2048)

/-- The squared distance of a row of `r` from the same row of `s`. -/
def rowDist (s : FVec Ideal S2048x64 .f32) : EReal := ∑ x : Fin 64, (r (ix2 n x) - s (ix2 n x)) * (r (ix2 n x) - s (ix2 n x))

/-- The four distances: each is the squared distance of the residual from the gathered row of its slab. -/
theorem rdist0_apply : rdist0 (F := Ideal) r b (ix2 0 n) = rowDist r n (slab0 b) := by
  unfold rowDist
  rw [← eights_sum]
  pointwise [rdist0, k2_pay6, k2_pay7, k2_pay8, k2_pay9, k2_pay10, k2_pay11, k2_pay5, k2_pay4]
  rfl

/-- The second distance. -/
theorem rdist1_apply : rdist1 (F := Ideal) r b (ix2 0 n) = rowDist r n (slab1 b) := by
  unfold rowDist
  rw [← eights_sum]
  pointwise [rdist1, sq1, sqDiffs, k2_pay19, k2_pay15, k2_pay17, k2_pay18, k2_pay16, k2_pay14, k2_pay5, k2_pay4]
  rfl

/-- The third distance. -/
theorem rdist2_apply : rdist2 (F := Ideal) r b (ix2 0 n) = rowDist r n (slab2 b) := by
  unfold rowDist
  rw [← eights_sum]
  pointwise [rdist2, sum2, part2, sqDiffs, k2_pay25, k2_pay26, k2_pay27, k2_pay28, k2_pay29, k2_pay30, k2_pay5, k2_pay4]
  rfl

/-- The fourth distance. -/
theorem rdist3_apply : rdist3 (F := Ideal) r b (ix2 0 n) = rowDist r n (slab3 b) := by
  unfold rowDist
  rw [← eights_sum]
  pointwise [rdist3, sqDiffs, k2_pay36, k2_pay37, k2_pay38, k2_pay39, k2_pay40, k2_pay5, k2_pay4]
  rfl

/-! ## The choice -/

variable (e : FVec Ideal S1024x64 .f32) (c : Fin 4 → Fin 1024)

/-- The four candidates of row `n` are `c`: their words lie in the four blocks, their rows of the codebook in the four slabs. -/
structure Gathered : Prop where
  row0 : ∀ x, slab0 b (ix2 n x) = e (ix2 (c 0) x)
  row1 : ∀ x, slab1 b (ix2 n x) = e (ix2 (c 1) x)
  row2 : ∀ x, slab2 b (ix2 n x) = e (ix2 (c 2) x)
  row3 : ∀ x, slab3 b (ix2 n x) = e (ix2 (c 3) x)
  word0 : words0 C (ix2 ⟨n.val / 256, by omega⟩ ⟨n.val % 256, by omega⟩) = word (c 0)
  word1 : words1 C (ix2 ⟨n.val / 256, by omega⟩ ⟨n.val % 256, by omega⟩) = word (c 1)
  word2 : words2 C (ix2 ⟨n.val / 256, by omega⟩ ⟨n.val % 256, by omega⟩) = word (c 2)
  word3 : words3 C (ix2 ⟨n.val / 256, by omega⟩ ⟨n.val % 256, by omega⟩) = word (c 3)

/-- Which of two candidates is taken. -/
def pick (D : Fin 1024 → EReal) (new old : Fin 4) : Fin 4 :=
  Scalar.select (take (D (c new)) (D (c old)) (word (c new)) (word (c old))) new old

/-- A choice between two candidates' values of a function is the function at the candidate taken. -/
theorem select_pick {α : Type} (f : Fin 4 → α) (D : Fin 1024 → EReal) (new old : Fin 4) :
    Scalar.select (take (D (c new)) (D (c old)) (word (c new)) (word (c old))) (f new) (f old) = f (pick c D new old) :=
  select_map _ f new old

/-- Which candidate is taken of the first two, of the first three, of all four. -/
def pick1 (D : Fin 1024 → EReal) : Fin 4 := pick c D 1 0
/-- Of the first three. -/
def pick2 (D : Fin 1024 → EReal) : Fin 4 := pick c D 2 (pick1 c D)
/-- Of all four. -/
def pick3 (D : Fin 1024 → EReal) : Fin 4 := pick c D 3 (pick2 c D)

/-- The candidate taken of all four is the best of the four. -/
theorem pick3_eq (D : Fin 1024 → EReal) : c (pick3 c D) = best D c := by
  have h : ∀ new old, c (pick c D new old) = better D (c new) (c old) := fun new old => (select_pick c c D new old).symm
  unfold pick3 pick2 pick1 best
  rw [h, h, h]

variable {r b C n e c} (h : Gathered b C n e c)

/-- The distance of the residual from a slab's row is its distance from the candidate. -/
theorem rowDist_eq {s : FVec Ideal S2048x64 .f32} {k : Fin 1024} (hs : ∀ x, s (ix2 n x) = e (ix2 k x)) :
    rowDist r n s = Reference.dist r e n k := by
  unfold rowDist Reference.dist
  simp only [hs]

include h

/-- The best distance of the first two candidates. -/
theorem Gathered.best1 : best1 (F := Ideal) r b C (ix2 0 n) = Reference.dist r e n (c (pick1 c (Reference.dist r e n))) := by
  pointwise [KernelIdealRun.best1, k2_pay22, k2_pay20, k2_pay12, k2_pay21]
  have h1 : k2_pay19 (sq1 r b) (k2_pay15 (sq1 r b)) (k2_pay17 (sq1 r b)) (k2_pay18 (sq1 r b)) (ix2 0 n) = _ :=
    (rdist1_apply r b n).trans (rowDist_eq h.row1)
  rw [h1, rdist0_apply, rowDist_eq h.row0, h.word0, h.word1]
  exact select_pick c (fun i => Reference.dist r e n (c i)) _ 1 0

/-- The code of the best of the first two candidates. -/
theorem Gathered.code1 : code1 (F := Ideal) r b C (ix2 0 n) = word (c (pick1 c (Reference.dist r e n))) := by
  pointwise [KernelIdealRun.code1, k2_pay23, k2_pay20, k2_pay12, k2_pay21]
  have h1 : k2_pay19 (sq1 r b) (k2_pay15 (sq1 r b)) (k2_pay17 (sq1 r b)) (k2_pay18 (sq1 r b)) (ix2 0 n) = _ :=
    (rdist1_apply r b n).trans (rowDist_eq h.row1)
  rw [h1, rdist0_apply, rowDist_eq h.row0, h.word0, h.word1]
  exact select_pick c (fun i => word (c i)) _ 1 0

/-- Which of the first two candidates is the best. -/
theorem Gathered.which1 : which1 (F := Ideal) r b C (ix2 0 n) = BitVec.ofNat 32 (pick1 c (Reference.dist r e n)).val := by
  pointwise [KernelIdealRun.which1, k2_pay24, k2_pay20, k2_pay12, k2_pay21, k2_pay13]
  have h1 : k2_pay19 (sq1 r b) (k2_pay15 (sq1 r b)) (k2_pay17 (sq1 r b)) (k2_pay18 (sq1 r b)) (ix2 0 n) = _ :=
    (rdist1_apply r b n).trans (rowDist_eq h.row1)
  rw [h1, rdist0_apply, rowDist_eq h.row0, h.word0, h.word1]
  exact select_pick c (fun i => BitVec.ofNat 32 i.val) _ 1 0

/-- The distance of the third candidate. -/
theorem Gathered.dist2 : k2_pay30 (F := Ideal) (sum2 r b) (part2 r b) (ix2 0 n) = Reference.dist r e n (c 2) :=
  (rdist2_apply r b n).trans (rowDist_eq h.row2)

/-- The best distance of the first three candidates. -/
theorem Gathered.best2 : best2 (F := Ideal) r b C (ix2 0 n) = Reference.dist r e n (c (pick2 c (Reference.dist r e n))) := by
  pointwise [KernelIdealRun.best2, k2_pay33, k2_pay31, k2_pay32]
  rw [h.dist2, h.best1, h.code1, h.word2]
  exact select_pick c (fun i => Reference.dist r e n (c i)) _ 2 _

/-- The code of the best of the first three candidates. -/
theorem Gathered.code2 : code2 (F := Ideal) r b C (ix2 0 n) = word (c (pick2 c (Reference.dist r e n))) := by
  pointwise [KernelIdealRun.code2, k2_pay34, k2_pay31, k2_pay32]
  rw [h.dist2, h.best1, h.code1, h.word2]
  exact select_pick c (fun i => word (c i)) _ 2 _

/-- Which of the first three candidates is the best. -/
theorem Gathered.which2 : which2 (F := Ideal) r b C (ix2 0 n) = BitVec.ofNat 32 (pick2 c (Reference.dist r e n)).val := by
  pointwise [KernelIdealRun.which2, k2_pay35, k2_pay31, k2_pay32]
  rw [h.dist2, h.best1, h.code1, h.which1, h.word2]
  exact select_pick c (fun i => BitVec.ofNat 32 i.val) _ 2 _

/-- The fourth candidate against the best of the first three. -/
theorem Gathered.take3 : IntOp.ori (nearer3 (F := Ideal) r b C (ix2 0 n)) (IntOp.andi (equal3 (F := Ideal) r b C (ix2 0 n))
      (IntOp.cmpi .slt (words3 C (ix2 ⟨n.val / 256, by omega⟩ ⟨n.val % 256, by omega⟩)) (KernelIdealRun.code2 (F := Ideal) r b C (ix2 0 n)))) =
    take (Reference.dist r e n (c 3)) (Reference.dist r e n (c (pick2 c (Reference.dist r e n)))) (word (c 3)) (word (c (pick2 c (Reference.dist r e n)))) := by
  have h3 : k2_pay40 (F := Ideal) (k2_pay36 (sqDiffs r b)) (k2_pay37 (sqDiffs r b)) (k2_pay38 (sqDiffs r b)) (k2_pay39 (sqDiffs r b)) (ix2 0 n)
      = Reference.dist r e n (c 3) := (rdist3_apply r b n).trans (rowDist_eq h.row3)
  pointwise [nearer3, equal3, k2_pay42, k2_pay43]
  rw [h3, h.best2, h.code2, h.word3]
  rfl

/-- The code stored for the row is the best of its four candidates. -/
theorem Gathered.codes : codesOf (F := Ideal) r b C (ix2 0 n) = word (best (Reference.dist r e n) c) := by
  pointwise [codesOf, k2_pay2, k2_pay1, k2_pay41]
  rw [h.take3, h.code2, h.word3, ← pick3_eq]
  exact select_pick c (fun i => word (c i)) _ 3 _

/-- The quantised row stored is the row of the codebook that the code names. -/
theorem Gathered.quant (d : Fin 64) : quantOf (F := Ideal) r b C (ix2 n d) = e (ix2 (best (Reference.dist r e n) c) d) := by
  have hd := d.isLt
  pointwise [quantOf, k2_pay3, slabs, k2_pay4, k2_pay1, k2_pay41]
  have hw : Scalar.select (take (Reference.dist r e n (c 3)) (Reference.dist r e n (c (pick2 c (Reference.dist r e n)))) (word (c 3))
      (word (c (pick2 c (Reference.dist r e n))))) 3#32 (BitVec.ofNat 32 (pick2 c (Reference.dist r e n)).val) =
      BitVec.ofNat 32 (pick3 c (Reference.dist r e n)).val := select_pick c (fun i => BitVec.ofNat 32 i.val) _ 3 _
  rw [h.take3, h.which2, hw, ← pick3_eq]
  clear hw
  generalize pick3 c (Reference.dist r e n) = i
  have e3 : ∀ hx, (⟨192 + d.val - 64 - 64 - 64, hx⟩ : Fin 64) = d := fun _ => Fin.ext (by show 192 + d.val - 64 - 64 - 64 = d.val; omega)
  have e2 : ∀ hx, (⟨128 + d.val - 64 - 64, hx⟩ : Fin 64) = d := fun _ => Fin.ext (by show 128 + d.val - 64 - 64 = d.val; omega)
  rw [dif_neg (by omega), dif_neg (by omega), dif_neg (by omega), dif_neg (by omega), dif_neg (by omega), dif_pos (by omega), e3, e2,
    h.row0, h.row1, h.row2, h.row3]
  match i with
  | 0 => rfl
  | 1 => rfl
  | 2 => rfl
  | 3 => rfl

end Cert.Proof.Rescore

end
-- ==== Proof.Precondition.lean ====
/-
  The precondition's function at the extended reals, index by index.
-/
module

public import proofs.«01_k».proof.Proof.Scores
public import proofs.«01_k».proof.Pre_four_candidates

@[expose] public section

noncomputable section

namespace Cert.Proof.Precondition

open Cert.Pre_four_candidates Cert.Pre_four_candidates.Facts
open Idealize.ShloMosaic Idealize.ShloMosaic.Pointwise Idealize.ShloMosaic.WordCmp
open Cert.Proof.Reference (dist)

/-- The shape facts that the precondition's function states. -/
instance facts : Cert.Pre_four_candidates.Facts where
  reducesTo_S1024x64_S1024_d1 := by decide
  h_S_ := by decide
  bcast_S1024_S1x1024_1 := by decide
  bcast_S2048x64_S2048x1x64_0_2 := by decide
  bcast_S1024x64_S1x1024x64_1_2 := by decide
  bcast_S2048x1x64_S2048x1024x64_0_1_2 := by decide
  bcast_S1x1024x64_S2048x1024x64_0_1_2 := by decide
  reducesTo_S2048x1024x64_S2048x1024_d2 := by decide
  bcast_S_S2048x1024 := by decide
  bcast_S1x1024_S2048x1024_0_1 := by decide
  reducesTo_S2048x1024_S2048_d1 := by decide
  bcast_S2048_S2048x1_0 := by decide
  bcast_S_S2048x1 := by decide
  bcast_S2048x1_S2048x1024_0_1 := by decide
  bcast_S_S2048x64 := by decide
  bcast_S_S2048 := by decide

/-- The first condition: a residual coordinate is finite. -/
theorem fn_finite (r : FVec Ideal S2048x64 .f32) (e : FVec Ideal S1024x64 .f32) (n : Fin 2048) (x : Fin 64) :
    (fn (F := Ideal) r e).1 (ix2 n x) = BitVec.ofBool (decide (max (r (ix2 n x)) (-(r (ix2 n x))) < (⊤ : EReal))) := by
  pointwise [fn, fn_part1, fn_part2, fn_where]
  rw [ofBits_inf, Ideal.absf_def]

/-- The second condition: a score is below two in absolute value. -/
theorem fn_score (r : FVec Ideal S2048x64 .f32) (e : FVec Ideal S1024x64 .f32) (n : Fin 2048) (k : Fin 1024) :
    (fn (F := Ideal) r e).2.1 (ix2 n k) = BitVec.ofBool (decide (max (score r e n k) (-(score r e n k)) < ((2 : ℝ) : EReal))) := by
  pointwise [fn, fn_part1, fn_part2, fn_where]
  rw [ofBits_two, Ideal.absf_def]
  rfl

/-- An identity's value, as an equation to rewrite by. -/
theorem id_value {α : Type} (x : α) : id x = x := (id_eq x).trans (Eq.refl x)

/-- The squared distances, as the precondition writes them. -/
def sqDist (r : FVec Ideal S2048x64 .f32) (e : FVec Ideal S1024x64 .f32) : FVec Ideal S2048x1024 .f32 :=
  Host.reduceAdd
    (mulf
      (subf (broadcastInDim S2048x1024x64 ![0, 1, 2] bcast_S2048x1x64_S2048x1024x64_0_1_2 (broadcastInDim S2048x1x64 ![0, 2] bcast_S2048x64_S2048x1x64_0_2 r))
        (broadcastInDim S2048x1024x64 ![0, 1, 2] bcast_S1x1024x64_S2048x1024x64_0_1_2 (broadcastInDim S1x1024x64 ![1, 2] bcast_S1024x64_S1x1024x64_1_2 e)))
      (subf (broadcastInDim S2048x1024x64 ![0, 1, 2] bcast_S2048x1x64_S2048x1024x64_0_1_2 (broadcastInDim S2048x1x64 ![0, 2] bcast_S2048x64_S2048x1x64_0_2 r))
        (broadcastInDim S2048x1024x64 ![0, 1, 2] bcast_S1x1024x64_S2048x1024x64_0_1_2 (broadcastInDim S1x1024x64 ![1, 2] bcast_S1024x64_S1x1024x64_1_2 e))))
    (constant S_ .f32 0x00000000#32) reducesTo_S2048x1024x64_S2048x1024_d2 h_S_

/-- The squared distance of a row from a code. -/
theorem sqDist_apply (r : FVec Ideal S2048x64 .f32) (e : FVec Ideal S1024x64 .f32) (n : Fin 2048) (k : Fin 1024) :
    sqDist r e (ix2 n k) = dist r e n k := by
  pointwise [sqDist]
  rfl

/-- The least of each row, as the precondition writes it. -/
def rowMin (D : FVec Ideal S2048x1024 .f32) : FVec Ideal S2048 .f32 :=
  Host.reduce FloatOps.minimumf D (constant S_ .f32 0x7F800000#32) reducesTo_S2048x1024_S2048_d1 h_S_

/-- The least entry of a row. -/
theorem rowMin_apply (D : FVec Ideal S2048x1024 .f32) (n : Fin 2048) :
    rowMin D (ix1 n) = Finset.univ.fold min (⊤ : EReal) (fun k : Fin 1024 => D (ix2 n k)) := by
  pointwise [rowMin]
  rw [ofBits_inf]

/-- The third condition: at most four codes are near. -/
theorem fn_few (r : FVec Ideal S2048x64 .f32) (e : FVec Ideal S1024x64 .f32) (n : Fin 2048) :
    (fn (F := Ideal) r e).2.2 (ix1 n) = BitVec.ofBool (decide (count r e n ≤ ((4 : ℝ) : EReal))) := by
  simp only [fn, fn_part1, fn_part2, fn_where]
  rw [id_value]
  obtain ⟨D, hD⟩ : ∃ D, sqDist r e = D := ⟨_, rfl⟩
  have hD' : ∀ k, D (ix2 n k) = dist r e n k := fun k => by rw [← hD]; exact sqDist_apply r e n k
  unfold sqDist at hD
  rw [hD]
  clear hD
  obtain ⟨M, hM⟩ : ∃ M, rowMin D = M := ⟨_, rfl⟩
  have hM' : M (ix1 n) = Finset.univ.fold min (⊤ : EReal) (fun k : Fin 1024 => D (ix2 n k)) := by rw [← hM]; exact rowMin_apply D n
  unfold rowMin at hM
  rw [hM]
  clear hM
  pointwise
  simp only [hD', hM', ofBits_margin, ofBits_four]
  rfl

/-- The function's three results all true: the precondition holds. -/
theorem holds_of_fn (r : FVec Ideal S2048x64 .f32) (e : FVec Ideal S1024x64 .f32)
    (h1 : (fn (F := Ideal) r e).1 = fun _ => 1#1) (h2 : (fn (F := Ideal) r e).2.1 = fun _ => 1#1)
    (h3 : (fn (F := Ideal) r e).2.2 = fun _ => 1#1) : Holds r e where
  finite n x := (ofBool_decide_eq_one_iff _).mp ((fn_finite r e n x).symm.trans (congrFun h1 _))
  score_lt n k := (ofBool_decide_eq_one_iff _).mp ((fn_score r e n k).symm.trans (congrFun h2 _))
  few n := (ofBool_decide_eq_one_iff _).mp ((fn_few r e n).symm.trans (congrFun h3 _))

end Cert.Proof.Precondition

end
-- ==== Proof.Algebraic.lean ====
/-
  The kernel's two results are the reference's: the codes and the quantised rows, under the precondition.
-/
module

public import proofs.«01_k».proof.Proof.Candidates
public import proofs.«01_k».proof.Proof.Rescore
public import proofs.«01_k».proof.Proof.KernelIdealRun
public import proofs.«01_k».proof.Proof.Precondition
public import proofs.«01_k».proof.Defs

@[expose] public section

noncomputable section

namespace Cert.Proof.Algebraic

open Cert.KernelIdeal Cert.KernelIdeal.Gen
open Cert.Proof.KernelIdealRun
open Idealize.ShloMosaic Idealize.ShloMosaic.Pointwise Idealize.SL.Sem
open Cert.Proof.Selection Cert.Proof.Precondition

variable (r : FVec Ideal S2048x64 .f32) (e : FVec Ideal S1024x64 .f32)

/-- A candidate word, by its block and its place in the block. -/
theorem candOf_apply (j : Fin 4) (g : Fin 8) (l : Fin 256) (y : S32x256.Idx) (h0 : (y 0).val = 8 * j.val + g.val) (h1 : (y 1).val = l.val) :
    candOf (F := Ideal) r e y = candBlocks (F := Ideal) r e j (ix2 g l) := by
  have ej : ∀ h, (⟨(y 0).val / 8, h⟩ : Fin 4) = j := fun _ => Fin.ext (by show (y 0).val / 8 = j.val; omega)
  have eg : (⟨(y 0).val % 8, Nat.mod_lt _ (by decide)⟩ : Fin 8) = g := Fin.ext (by show (y 0).val % 8 = g.val; omega)
  have el : y 1 = l := Fin.ext h1
  unfold candOf
  rw [ej, eg, el]
  exact congrArg (candBlocks (F := Ideal) r e j) (funext fun a => by match a with | ⟨0, _⟩ => rfl | ⟨1, _⟩ => rfl)

/-- The block row and the column of a residual's candidates. -/
def blockRow (n : Fin 2048) : Fin 8 := ⟨n.val / 256, by omega⟩
/-- The column of a residual's candidates. -/
def blockCol (n : Fin 2048) : Fin 256 := ⟨n.val % 256, by omega⟩

/-- The residual whose candidates lie at a residual's own place is that residual. -/
theorem rowAt_block (n : Fin 2048) : Candidates.rowAt (blockRow n) (blockCol n) = n :=
  Fin.ext (by show n.val / 256 * 256 + n.val % 256 = n.val; omega)

/-- The place of a residual's j-th candidate in the table of words. -/
def place (n : Fin 2048) (j : Fin 4) : S32x256.Idx := ix2 (⟨8 * j.val + n.val / 256, by omega⟩ : Fin 32) (blockCol n)

/-- The four candidates of a residual. -/
def cand4 (n : Fin 2048) (j : Fin 4) : Fin 1024 := ⟨(candOf (F := Ideal) r e (place n j)).toNat, candOf_lt r e _⟩

/-- The word at a candidate's place is the candidate's. -/
theorem candOf_place (n : Fin 2048) (j : Fin 4) : candOf (F := Ideal) r e (place n j) = word (cand4 r e n j) :=
  BitVec.eq_of_toNat_eq (word_toNat (cand4 r e n j)).symm

/-- Where every tile has written the rows its words name, the rows and words of a residual are those of its four candidates. -/
theorem gathered {b : FVec Ideal S8192x128 .f32} (hb : ∀ w, BlkOK e (candOf (F := Ideal) r e) w b) (n : Fin 2048) :
    Rescore.Gathered b (candOf (F := Ideal) r e) n e (cand4 r e n) := by
  have hrow : ∀ (j : Fin 4) (x : S8192x128.Idx) (d : Fin 64), (x 0).val = 2048 * j.val + n.val → (x 1).val = d.val →
      b x = e (ix2 (cand4 r e n j) d) := fun j x d h0 h1 =>
    hb ⟨8 * j.val + n.val / 256, by omega⟩ x (place n j) (ix2 (cand4 r e n j) d) rfl
      (by show (x 0).val = 256 * (8 * j.val + n.val / 256) + n.val % 256; omega) rfl h1.symm
  have hword : ∀ (j : Fin 4) (y : S32x256.Idx), (y 0).val = 8 * j.val + n.val / 256 → (y 1).val = n.val % 256 →
      candOf (F := Ideal) r e y = word (cand4 r e n j) := fun j y h0 h1 => by
    rw [← candOf_place, candOf_apply r e j (blockRow n) (blockCol n) y h0 h1]
    exact (candOf_apply r e j (blockRow n) (blockCol n) (place n j) rfl rfl).symm
  exact {
    row0 := fun x => hrow 0 _ x (by show 0 + 1 * n.val = 2048 * 0 + n.val; omega) (by show 0 + 1 * x.val = x.val; omega)
    row1 := fun x => hrow 1 _ x (by show 2048 + 1 * n.val = 2048 * 1 + n.val; omega) (by show 0 + 1 * x.val = x.val; omega)
    row2 := fun x => hrow 2 _ x (by show 4096 + 1 * n.val = 2048 * 2 + n.val; omega) (by show 0 + 1 * x.val = x.val; omega)
    row3 := fun x => hrow 3 _ x (by show 6144 + 1 * n.val = 2048 * 3 + n.val; omega) (by show 0 + 1 * x.val = x.val; omega)
    word0 := hword 0 _ (by show 0 + 1 * (n.val / 256) = 8 * 0 + n.val / 256; omega) (by show 0 + 1 * (n.val % 256) = n.val % 256; omega)
    word1 := hword 1 _ (by show 8 + 1 * (n.val / 256) = 8 * 1 + n.val / 256; omega) (by show 0 + 1 * (n.val % 256) = n.val % 256; omega)
    word2 := hword 2 _ (by show 16 + 1 * (n.val / 256) = 8 * 2 + n.val / 256; omega) (by show 0 + 1 * (n.val % 256) = n.val % 256; omega)
    word3 := hword 3 _ (by show 24 + 1 * (n.val / 256) = 8 * 3 + n.val / 256; omega) (by show 0 + 1 * (n.val % 256) = n.val % 256; omega) }

section Results

variable {r e} (h : Holds r e)
include h

/-- Under the precondition, the best of a residual's four candidates is its nearest code, the first if several are. -/
theorem best_eq (n : Fin 2048) (k : Fin 1024) (hk : First (Reference.dist r e n) k) : best (Reference.dist r e n) (cand4 r e n) = k := by
  refine best_first hk _ ?_
  obtain ⟨j, hj⟩ := Candidates.nearest_block r e (blockRow n) (blockCol n) h k (by rw [rowAt_block]; exact hk)
  refine ⟨j, word_injective ?_⟩
  rw [← candOf_place, ← hj]
  exact candOf_apply r e j (blockRow n) (blockCol n) (place n j) rfl rfl

variable {b : FVec Ideal S8192x128 .f32} (hb : ∀ w, BlkOK e (candOf (F := Ideal) r e) w b)
include hb

/-- The kernel's codes are the reference's. -/
theorem codes : shapeCast S2048 (codesOf (F := Ideal) r b (candOf (F := Ideal) r e)) shapeCasts_S1x2048_S2048 = Reference.codesRef (F := Ideal) r e := by
  funext i
  obtain ⟨n, rfl⟩ : ∃ n, i = ix1 n := ⟨i 0, eq_ix1 i⟩
  obtain ⟨k, hk, hc⟩ := Reference.codesRef_apply r e n
  rw [hc, ← best_eq h n k hk]
  refine Eq.trans ?_ (gathered r e hb n).codes
  generalize codesOf (F := Ideal) r b (candOf (F := Ideal) r e) = f
  pointwise []

/-- The kernel's quantised rows are the reference's. -/
theorem quant : quantOf (F := Ideal) r b (candOf (F := Ideal) r e) = Reference.quantRef (F := Ideal) r e := by
  funext i
  obtain ⟨n, d, rfl⟩ : ∃ n d, i = ix2 n d := ⟨i 0, i 1, eq_ix2 i⟩
  obtain ⟨k, hk, hc⟩ := Reference.codesRef_apply r e n
  exact ((gathered r e hb n).quant d).trans ((congrArg (fun k => e (ix2 k d)) (best_eq h n k hk)).trans (Reference.takeRef_apply e n _ k hc d).symm)

end Results

/-- The kernel and the reference from memories that agree on the arguments and satisfy the precondition: the same two results. -/
theorem claim : Cert.algebraic_KernelIdeal_ReferenceIdeal_pre_four_candidates := by
  intro m ρ m' ρ' hpre hargs
  have hp : ∀ c, Holds (argR m c) (argE m c) := fun c => holds_of_fn _ _ (hpre c).1 (hpre c).2.1 (hpre c).2.2
  refine ⟨fun c => Reference.quantRef (F := Ideal) (argR m c) (argE m c), fun c => Reference.codesRef (F := Ideal) (argR m c) (argE m c), ?_, ?_⟩
  · refine (θ_run Cert.KernelIdeal.defs _ _).mono (fun q hq c => ?_) (KernelIdealRun.run_main (F := Ideal) m ρ)
    obtain ⟨⟨g, hg, h1, h2⟩, h3⟩ := hq.1 c
    exact ⟨h1.trans (quant (hp c) hg), h2.trans (codes (hp c) hg), h3⟩
  · refine (θ_run Cert.ReferenceIdeal.defs _ _).mono (fun q hq c => ?_) (Reference.run_main m' ρ')
    have e0 : m' ((c.tc : Thread Cert.ReferenceIdeal.nD Cert.ReferenceIdeal.τ).loc Cert.ReferenceIdeal.main_arg0) = argR m c := (hargs c).1
    have e1 : m' ((c.tc : Thread Cert.ReferenceIdeal.nD Cert.ReferenceIdeal.τ).loc Cert.ReferenceIdeal.main_arg1) = argE m c := (hargs c).2
    refine ⟨(hq c Cert.ReferenceIdeal.main_v8).trans ((Reference.quant_eq _).trans ?_),
      (hq c Cert.ReferenceIdeal.main_v7).trans ((Reference.codes_eq _).trans ?_),
      (hq c Cert.ReferenceIdeal.main_arg0).trans (Reference.arg0_eq _), (hq c Cert.ReferenceIdeal.main_arg1).trans (Reference.arg1_eq _)⟩
    · exact congrArg₂ (Reference.quantRef (F := Ideal)) e0 e1
    · exact congrArg₂ (Reference.codesRef (F := Ideal)) e0 e1

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelRun
public import proofs.«01_k».proof.Proof.KernelIdealRun
public import proofs.«01_k».proof.Proof.Reference
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The printed kernel's frame: its run read at the arguments. -/
theorem frame_kernel : Cert.quiescent_Kernel := fun m ρ _ =>
  (θ_run Cert.Kernel.defs _ _).mono (fun _ h => ⟨fun c => (h.1 c).2, h.2⟩) (KernelRun.run_main (F := Bits) m ρ)

/-- The ideal kernel's frame: its run read at the arguments. -/
theorem frame_ideal : Cert.quiescent_KernelIdeal := fun m ρ _ =>
  (θ_run Cert.KernelIdeal.defs _ _).mono (fun _ h => ⟨fun c => (h.1 c).2, h.2⟩) (KernelIdealRun.run_main (F := Ideal) m ρ)

/-- The certificate's claims. -/
theorem claim : Cert.Claim := ⟨Cert.Kernel.Gen.facts, Cert.KernelIdeal.Gen.facts, Cert.ReferenceIdeal.Gen.facts,
  Precondition.facts, frame_kernel, frame_ideal, fun m ρ _ => frame_ideal m ρ trivial, Reference.frame,
  fun m ρ _ => Reference.frame m ρ trivial, trivial, Algebraic.claim⟩

end Cert.Proof

end
